-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_rotary_tables [hPre_rotary_tables : Cert.Pre_rotary_tables.Facts] (m : (ℓ : Loc Cert.KernelIdeal.nD Cert.KernelIdeal.τ Cert.KernelIdeal.sig) → Buf (Elt Ideal) ℓ) : Prop :=
  ∀ c : Dev Cert.KernelIdeal.nD,
    (Cert.Pre_rotary_tables.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_rotary_tables [hPre_rotary_tables : Cert.Pre_rotary_tables.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_rotary_tables.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def Pre_RetIn (m : (ℓ : Loc Cert.RetIn.nD Cert.RetIn.τ Cert.RetIn.sig) → Buf (Elt Bits) ℓ) : Prop :=
  True

def Pre_RetInIdeal (m : (ℓ : Loc Cert.RetInIdeal.nD Cert.RetInIdeal.τ Cert.RetInIdeal.sig) → Buf (Elt Ideal) ℓ) : Prop :=
  True

def Pre_RefRetInIdeal (m : (ℓ : Loc Cert.RefRetInIdeal.nD Cert.RefRetInIdeal.τ Cert.RefRetInIdeal.sig) → Buf (Elt Ideal) ℓ) : Prop :=
  True

def Pre_GdnIn (m : (ℓ : Loc Cert.GdnIn.nD Cert.GdnIn.τ Cert.GdnIn.sig) → Buf (Elt Bits) ℓ) : Prop :=
  True

def Pre_GdnInIdeal (m : (ℓ : Loc Cert.GdnInIdeal.nD Cert.GdnInIdeal.τ Cert.GdnInIdeal.sig) → Buf (Elt Ideal) ℓ) : Prop :=
  True

def Pre_RefGdnInIdeal (m : (ℓ : Loc Cert.RefGdnInIdeal.nD Cert.RefGdnInIdeal.τ Cert.RefGdnInIdeal.sig) → Buf (Elt Ideal) ℓ) : Prop :=
  True

def Pre_MemKv (m : (ℓ : Loc Cert.MemKv.nD Cert.MemKv.τ Cert.MemKv.sig) → Buf (Elt Bits) ℓ) : Prop :=
  True

def Pre_MemKvIdeal (m : (ℓ : Loc Cert.MemKvIdeal.nD Cert.MemKvIdeal.τ Cert.MemKvIdeal.sig) → Buf (Elt Ideal) ℓ) : Prop :=
  True

def Pre_RefMemKvIdeal (m : (ℓ : Loc Cert.RefMemKvIdeal.nD Cert.RefMemKvIdeal.τ Cert.RefMemKvIdeal.sig) → Buf (Elt Ideal) ℓ) : Prop :=
  True

def Pre_GateOut (m : (ℓ : Loc Cert.GateOut.nD Cert.GateOut.τ Cert.GateOut.sig) → Buf (Elt Bits) ℓ) : Prop :=
  True

def Pre_GateOutIdeal (m : (ℓ : Loc Cert.GateOutIdeal.nD Cert.GateOutIdeal.τ Cert.GateOutIdeal.sig) → Buf (Elt Ideal) ℓ) : Prop :=
  True

def Pre_RefGateOutIdeal (m : (ℓ : Loc Cert.RefGateOutIdeal.nD Cert.RefGateOutIdeal.τ Cert.RefGateOutIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_rotary_tables [hKernelIdeal : Cert.KernelIdeal.Facts] [hPre_rotary_tables : Cert.Pre_rotary_tables.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_rotary_tables m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_rotary_tables [hReferenceIdeal : Cert.ReferenceIdeal.Facts] [hPre_rotary_tables : Cert.Pre_rotary_tables.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_rotary_tables m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_RetIn [hRetIn : Cert.RetIn.Facts] : Prop :=
  ∀ (m : (ℓ : Loc Cert.RetIn.nD Cert.RetIn.τ Cert.RetIn.sig) → Buf (Elt Bits) ℓ) (g : Dev Cert.RetIn.nD → PrngReg), Pre_RetIn m →
    θ_run (Cert.RetIn.defs (F := Bits)) (onTc (τ := Cert.RetIn.τ) (Cert.RetIn.main (F := Bits))) ⟨m, fun _ => 0, g⟩ (fun r => (∀ c : Dev Cert.RetIn.nD,
      r.2.mem ((c.tc : Thread Cert.RetIn.nD Cert.RetIn.τ).loc Cert.RetIn.main_arg0) = m ((c.tc : Thread Cert.RetIn.nD Cert.RetIn.τ).loc Cert.RetIn.main_arg0)
      ∧ r.2.mem ((c.tc : Thread Cert.RetIn.nD Cert.RetIn.τ).loc Cert.RetIn.main_arg1) = m ((c.tc : Thread Cert.RetIn.nD Cert.RetIn.τ).loc Cert.RetIn.main_arg1))
      ∧ r.2.sem = fun _ => 0)

def quiescent_RetInIdeal [hRetInIdeal : Cert.RetInIdeal.Facts] : Prop :=
  ∀ (m : (ℓ : Loc Cert.RetInIdeal.nD Cert.RetInIdeal.τ Cert.RetInIdeal.sig) → Buf (Elt Ideal) ℓ) (g : Dev Cert.RetInIdeal.nD → PrngReg), Pre_RetInIdeal m →
    θ_run (Cert.RetInIdeal.defs (F := Ideal)) (onTc (τ := Cert.RetInIdeal.τ) (Cert.RetInIdeal.main (F := Ideal))) ⟨m, fun _ => 0, g⟩ (fun r => (∀ c : Dev Cert.RetInIdeal.nD,
      r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
      ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1))
      ∧ r.2.sem = fun _ => 0)

def quiescent_RefRetInIdeal [hRefRetInIdeal : Cert.RefRetInIdeal.Facts] : Prop :=
  ∀ (m : (ℓ : Loc Cert.RefRetInIdeal.nD Cert.RefRetInIdeal.τ Cert.RefRetInIdeal.sig) → Buf (Elt Ideal) ℓ) (g : Dev Cert.RefRetInIdeal.nD → PrngReg), Pre_RefRetInIdeal m →
    θ_run (Cert.RefRetInIdeal.defs (F := Ideal)) (onTc (τ := Cert.RefRetInIdeal.τ) (Cert.RefRetInIdeal.main (F := Ideal))) ⟨m, fun _ => 0, g⟩ (fun r => (∀ c : Dev Cert.RefRetInIdeal.nD,
      r.2.mem ((c.tc : Thread Cert.RefRetInIdeal.nD Cert.RefRetInIdeal.τ).loc Cert.RefRetInIdeal.main_arg0) = m ((c.tc : Thread Cert.RefRetInIdeal.nD Cert.RefRetInIdeal.τ).loc Cert.RefRetInIdeal.main_arg0)
      ∧ r.2.mem ((c.tc : Thread Cert.RefRetInIdeal.nD Cert.RefRetInIdeal.τ).loc Cert.RefRetInIdeal.main_arg1) = m ((c.tc : Thread Cert.RefRetInIdeal.nD Cert.RefRetInIdeal.τ).loc Cert.RefRetInIdeal.main_arg1))
      ∧ r.2.sem = fun _ => 0)

def quiescent_GdnIn [hGdnIn : Cert.GdnIn.Facts] : Prop :=
  ∀ (m : (ℓ : Loc Cert.GdnIn.nD Cert.GdnIn.τ Cert.GdnIn.sig) → Buf (Elt Bits) ℓ) (g : Dev Cert.GdnIn.nD → PrngReg), Pre_GdnIn m →
    θ_run (Cert.GdnIn.defs (F := Bits)) (onTc (τ := Cert.GdnIn.τ) (Cert.GdnIn.main (F := Bits))) ⟨m, fun _ => 0, g⟩ (fun r => (∀ c : Dev Cert.GdnIn.nD,
      r.2.mem ((c.tc : Thread Cert.GdnIn.nD Cert.GdnIn.τ).loc Cert.GdnIn.main_arg0) = m ((c.tc : Thread Cert.GdnIn.nD Cert.GdnIn.τ).loc Cert.GdnIn.main_arg0)
      ∧ r.2.mem ((c.tc : Thread Cert.GdnIn.nD Cert.GdnIn.τ).loc Cert.GdnIn.main_arg1) = m ((c.tc : Thread Cert.GdnIn.nD Cert.GdnIn.τ).loc Cert.GdnIn.main_arg1))
      ∧ r.2.sem = fun _ => 0)

def quiescent_GdnInIdeal [hGdnInIdeal : Cert.GdnInIdeal.Facts] : Prop :=
  ∀ (m : (ℓ : Loc Cert.GdnInIdeal.nD Cert.GdnInIdeal.τ Cert.GdnInIdeal.sig) → Buf (Elt Ideal) ℓ) (g : Dev Cert.GdnInIdeal.nD → PrngReg), Pre_GdnInIdeal m →
    θ_run (Cert.GdnInIdeal.defs (F := Ideal)) (onTc (τ := Cert.GdnInIdeal.τ) (Cert.GdnInIdeal.main (F := Ideal))) ⟨m, fun _ => 0, g⟩ (fun r => (∀ c : Dev Cert.GdnInIdeal.nD,
      r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
      ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1))
      ∧ r.2.sem = fun _ => 0)

def quiescent_RefGdnInIdeal [hRefGdnInIdeal : Cert.RefGdnInIdeal.Facts] : Prop :=
  ∀ (m : (ℓ : Loc Cert.RefGdnInIdeal.nD Cert.RefGdnInIdeal.τ Cert.RefGdnInIdeal.sig) → Buf (Elt Ideal) ℓ) (g : Dev Cert.RefGdnInIdeal.nD → PrngReg), Pre_RefGdnInIdeal m →
    θ_run (Cert.RefGdnInIdeal.defs (F := Ideal)) (onTc (τ := Cert.RefGdnInIdeal.τ) (Cert.RefGdnInIdeal.main (F := Ideal))) ⟨m, fun _ => 0, g⟩ (fun r => (∀ c : Dev Cert.RefGdnInIdeal.nD,
      r.2.mem ((c.tc : Thread Cert.RefGdnInIdeal.nD Cert.RefGdnInIdeal.τ).loc Cert.RefGdnInIdeal.main_arg0) = m ((c.tc : Thread Cert.RefGdnInIdeal.nD Cert.RefGdnInIdeal.τ).loc Cert.RefGdnInIdeal.main_arg0)
      ∧ r.2.mem ((c.tc : Thread Cert.RefGdnInIdeal.nD Cert.RefGdnInIdeal.τ).loc Cert.RefGdnInIdeal.main_arg1) = m ((c.tc : Thread Cert.RefGdnInIdeal.nD Cert.RefGdnInIdeal.τ).loc Cert.RefGdnInIdeal.main_arg1))
      ∧ r.2.sem = fun _ => 0)

def quiescent_MemKv [hMemKv : Cert.MemKv.Facts] : Prop :=
  ∀ (m : (ℓ : Loc Cert.MemKv.nD Cert.MemKv.τ Cert.MemKv.sig) → Buf (Elt Bits) ℓ) (g : Dev Cert.MemKv.nD → PrngReg), Pre_MemKv m →
    θ_run (Cert.MemKv.defs (F := Bits)) (onTc (τ := Cert.MemKv.τ) (Cert.MemKv.main (F := Bits))) ⟨m, fun _ => 0, g⟩ (fun r => (∀ c : Dev Cert.MemKv.nD,
      r.2.mem ((c.tc : Thread Cert.MemKv.nD Cert.MemKv.τ).loc Cert.MemKv.main_arg0) = m ((c.tc : Thread Cert.MemKv.nD Cert.MemKv.τ).loc Cert.MemKv.main_arg0)
      ∧ r.2.mem ((c.tc : Thread Cert.MemKv.nD Cert.MemKv.τ).loc Cert.MemKv.main_arg1) = m ((c.tc : Thread Cert.MemKv.nD Cert.MemKv.τ).loc Cert.MemKv.main_arg1))
      ∧ r.2.sem = fun _ => 0)

def quiescent_MemKvIdeal [hMemKvIdeal : Cert.MemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg), Pre_MemKvIdeal m →
    θ_run (Cert.MemKvIdeal.defs (F := Ideal)) (onTc (τ := Cert.MemKvIdeal.τ) (Cert.MemKvIdeal.main (F := Ideal))) ⟨m, fun _ => 0, g⟩ (fun r => (∀ c : Dev Cert.MemKvIdeal.nD,
      r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
      ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ r.2.sem = fun _ => 0)

def quiescent_RefMemKvIdeal [hRefMemKvIdeal : Cert.RefMemKvIdeal.Facts] : Prop :=
  ∀ (m : (ℓ : Loc Cert.RefMemKvIdeal.nD Cert.RefMemKvIdeal.τ Cert.RefMemKvIdeal.sig) → Buf (Elt Ideal) ℓ) (g : Dev Cert.RefMemKvIdeal.nD → PrngReg), Pre_RefMemKvIdeal m →
    θ_run (Cert.RefMemKvIdeal.defs (F := Ideal)) (onTc (τ := Cert.RefMemKvIdeal.τ) (Cert.RefMemKvIdeal.main (F := Ideal))) ⟨m, fun _ => 0, g⟩ (fun r => (∀ c : Dev Cert.RefMemKvIdeal.nD,
      r.2.mem ((c.tc : Thread Cert.RefMemKvIdeal.nD Cert.RefMemKvIdeal.τ).loc Cert.RefMemKvIdeal.main_arg0) = m ((c.tc : Thread Cert.RefMemKvIdeal.nD Cert.RefMemKvIdeal.τ).loc Cert.RefMemKvIdeal.main_arg0)
      ∧ r.2.mem ((c.tc : Thread Cert.RefMemKvIdeal.nD Cert.RefMemKvIdeal.τ).loc Cert.RefMemKvIdeal.main_arg1) = m ((c.tc : Thread Cert.RefMemKvIdeal.nD Cert.RefMemKvIdeal.τ).loc Cert.RefMemKvIdeal.main_arg1))
      ∧ r.2.sem = fun _ => 0)

def quiescent_GateOut [hGateOut : Cert.GateOut.Facts] : Prop :=
  ∀ (m : (ℓ : Loc Cert.GateOut.nD Cert.GateOut.τ Cert.GateOut.sig) → Buf (Elt Bits) ℓ) (g : Dev Cert.GateOut.nD → PrngReg), Pre_GateOut m →
    θ_run (Cert.GateOut.defs (F := Bits)) (onTc (τ := Cert.GateOut.τ) (Cert.GateOut.main (F := Bits))) ⟨m, fun _ => 0, g⟩ (fun r => (∀ c : Dev Cert.GateOut.nD,
      r.2.mem ((c.tc : Thread Cert.GateOut.nD Cert.GateOut.τ).loc Cert.GateOut.main_arg0) = m ((c.tc : Thread Cert.GateOut.nD Cert.GateOut.τ).loc Cert.GateOut.main_arg0)
      ∧ r.2.mem ((c.tc : Thread Cert.GateOut.nD Cert.GateOut.τ).loc Cert.GateOut.main_arg1) = m ((c.tc : Thread Cert.GateOut.nD Cert.GateOut.τ).loc Cert.GateOut.main_arg1)
      ∧ r.2.mem ((c.tc : Thread Cert.GateOut.nD Cert.GateOut.τ).loc Cert.GateOut.main_arg2) = m ((c.tc : Thread Cert.GateOut.nD Cert.GateOut.τ).loc Cert.GateOut.main_arg2)
      ∧ r.2.mem ((c.tc : Thread Cert.GateOut.nD Cert.GateOut.τ).loc Cert.GateOut.main_arg3) = m ((c.tc : Thread Cert.GateOut.nD Cert.GateOut.τ).loc Cert.GateOut.main_arg3)
      ∧ r.2.mem ((c.tc : Thread Cert.GateOut.nD Cert.GateOut.τ).loc Cert.GateOut.main_arg4) = m ((c.tc : Thread Cert.GateOut.nD Cert.GateOut.τ).loc Cert.GateOut.main_arg4)
      ∧ r.2.mem ((c.tc : Thread Cert.GateOut.nD Cert.GateOut.τ).loc Cert.GateOut.main_arg5) = m ((c.tc : Thread Cert.GateOut.nD Cert.GateOut.τ).loc Cert.GateOut.main_arg5)
      ∧ r.2.mem ((c.tc : Thread Cert.GateOut.nD Cert.GateOut.τ).loc Cert.GateOut.main_arg6) = m ((c.tc : Thread Cert.GateOut.nD Cert.GateOut.τ).loc Cert.GateOut.main_arg6))
      ∧ r.2.sem = fun _ => 0)

def quiescent_GateOutIdeal [hGateOutIdeal : Cert.GateOutIdeal.Facts] : Prop :=
  ∀ (m : (ℓ : Loc Cert.GateOutIdeal.nD Cert.GateOutIdeal.τ Cert.GateOutIdeal.sig) → Buf (Elt Ideal) ℓ) (g : Dev Cert.GateOutIdeal.nD → PrngReg), Pre_GateOutIdeal m →
    θ_run (Cert.GateOutIdeal.defs (F := Ideal)) (onTc (τ := Cert.GateOutIdeal.τ) (Cert.GateOutIdeal.main (F := Ideal))) ⟨m, fun _ => 0, g⟩ (fun r => (∀ c : Dev Cert.GateOutIdeal.nD,
      r.2.mem ((c.tc : Thread Cert.GateOutIdeal.nD Cert.GateOutIdeal.τ).loc Cert.GateOutIdeal.main_arg0) = m ((c.tc : Thread Cert.GateOutIdeal.nD Cert.GateOutIdeal.τ).loc Cert.GateOutIdeal.main_arg0)
      ∧ r.2.mem ((c.tc : Thread Cert.GateOutIdeal.nD Cert.GateOutIdeal.τ).loc Cert.GateOutIdeal.main_arg1) = m ((c.tc : Thread Cert.GateOutIdeal.nD Cert.GateOutIdeal.τ).loc Cert.GateOutIdeal.main_arg1)
      ∧ r.2.mem ((c.tc : Thread Cert.GateOutIdeal.nD Cert.GateOutIdeal.τ).loc Cert.GateOutIdeal.main_arg2) = m ((c.tc : Thread Cert.GateOutIdeal.nD Cert.GateOutIdeal.τ).loc Cert.GateOutIdeal.main_arg2)
      ∧ r.2.mem ((c.tc : Thread Cert.GateOutIdeal.nD Cert.GateOutIdeal.τ).loc Cert.GateOutIdeal.main_arg3) = m ((c.tc : Thread Cert.GateOutIdeal.nD Cert.GateOutIdeal.τ).loc Cert.GateOutIdeal.main_arg3)
      ∧ r.2.mem ((c.tc : Thread Cert.GateOutIdeal.nD Cert.GateOutIdeal.τ).loc Cert.GateOutIdeal.main_arg4) = m ((c.tc : Thread Cert.GateOutIdeal.nD Cert.GateOutIdeal.τ).loc Cert.GateOutIdeal.main_arg4)
      ∧ r.2.mem ((c.tc : Thread Cert.GateOutIdeal.nD Cert.GateOutIdeal.τ).loc Cert.GateOutIdeal.main_arg5) = m ((c.tc : Thread Cert.GateOutIdeal.nD Cert.GateOutIdeal.τ).loc Cert.GateOutIdeal.main_arg5)
      ∧ r.2.mem ((c.tc : Thread Cert.GateOutIdeal.nD Cert.GateOutIdeal.τ).loc Cert.GateOutIdeal.main_arg6) = m ((c.tc : Thread Cert.GateOutIdeal.nD Cert.GateOutIdeal.τ).loc Cert.GateOutIdeal.main_arg6))
      ∧ r.2.sem = fun _ => 0)

def quiescent_RefGateOutIdeal [hRefGateOutIdeal : Cert.RefGateOutIdeal.Facts] : Prop :=
  ∀ (m : (ℓ : Loc Cert.RefGateOutIdeal.nD Cert.RefGateOutIdeal.τ Cert.RefGateOutIdeal.sig) → Buf (Elt Ideal) ℓ) (g : Dev Cert.RefGateOutIdeal.nD → PrngReg), Pre_RefGateOutIdeal m →
    θ_run (Cert.RefGateOutIdeal.defs (F := Ideal)) (onTc (τ := Cert.RefGateOutIdeal.τ) (Cert.RefGateOutIdeal.main (F := Ideal))) ⟨m, fun _ => 0, g⟩ (fun r => (∀ c : Dev Cert.RefGateOutIdeal.nD,
      r.2.mem ((c.tc : Thread Cert.RefGateOutIdeal.nD Cert.RefGateOutIdeal.τ).loc Cert.RefGateOutIdeal.main_arg0) = m ((c.tc : Thread Cert.RefGateOutIdeal.nD Cert.RefGateOutIdeal.τ).loc Cert.RefGateOutIdeal.main_arg0)
      ∧ r.2.mem ((c.tc : Thread Cert.RefGateOutIdeal.nD Cert.RefGateOutIdeal.τ).loc Cert.RefGateOutIdeal.main_arg1) = m ((c.tc : Thread Cert.RefGateOutIdeal.nD Cert.RefGateOutIdeal.τ).loc Cert.RefGateOutIdeal.main_arg1)
      ∧ r.2.mem ((c.tc : Thread Cert.RefGateOutIdeal.nD Cert.RefGateOutIdeal.τ).loc Cert.RefGateOutIdeal.main_arg2) = m ((c.tc : Thread Cert.RefGateOutIdeal.nD Cert.RefGateOutIdeal.τ).loc Cert.RefGateOutIdeal.main_arg2)
      ∧ r.2.mem ((c.tc : Thread Cert.RefGateOutIdeal.nD Cert.RefGateOutIdeal.τ).loc Cert.RefGateOutIdeal.main_arg3) = m ((c.tc : Thread Cert.RefGateOutIdeal.nD Cert.RefGateOutIdeal.τ).loc Cert.RefGateOutIdeal.main_arg3)
      ∧ r.2.mem ((c.tc : Thread Cert.RefGateOutIdeal.nD Cert.RefGateOutIdeal.τ).loc Cert.RefGateOutIdeal.main_arg4) = m ((c.tc : Thread Cert.RefGateOutIdeal.nD Cert.RefGateOutIdeal.τ).loc Cert.RefGateOutIdeal.main_arg4)
      ∧ r.2.mem ((c.tc : Thread Cert.RefGateOutIdeal.nD Cert.RefGateOutIdeal.τ).loc Cert.RefGateOutIdeal.main_arg5) = m ((c.tc : Thread Cert.RefGateOutIdeal.nD Cert.RefGateOutIdeal.τ).loc Cert.RefGateOutIdeal.main_arg5)
      ∧ r.2.mem ((c.tc : Thread Cert.RefGateOutIdeal.nD Cert.RefGateOutIdeal.τ).loc Cert.RefGateOutIdeal.main_arg6) = m ((c.tc : Thread Cert.RefGateOutIdeal.nD Cert.RefGateOutIdeal.τ).loc Cert.RefGateOutIdeal.main_arg6))
      ∧ r.2.sem = fun _ => 0)

def preserves_Kernel_KernelIdeal : Prop :=
  True

def algebraic_KernelIdeal_ReferenceIdeal_pre_rotary_tables [hKernelIdeal : Cert.KernelIdeal.Facts] [hReferenceIdeal : Cert.ReferenceIdeal.Facts] [hPre_rotary_tables : Cert.Pre_rotary_tables.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_rotary_tables m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v128) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_RetIn_RetInIdeal : Prop :=
  True

def algebraic_RetInIdeal_RefRetInIdeal [hRetInIdeal : Cert.RetInIdeal.Facts] [hRefRetInIdeal : Cert.RefRetInIdeal.Facts] : Prop :=
  ∀ (m : (ℓ : Loc Cert.RetInIdeal.nD Cert.RetInIdeal.τ Cert.RetInIdeal.sig) → Buf (Elt Ideal) ℓ) (g : Dev Cert.RetInIdeal.nD → PrngReg)
    (m' : (ℓ : Loc Cert.RefRetInIdeal.nD Cert.RefRetInIdeal.τ Cert.RefRetInIdeal.sig) → Buf (Elt Ideal) ℓ) (g' : Dev Cert.RefRetInIdeal.nD → PrngReg), Pre_RetInIdeal m →
    (∀ c : Dev Cert.RetInIdeal.nD,
      m' ((c.tc : Thread Cert.RefRetInIdeal.nD Cert.RefRetInIdeal.τ).loc Cert.RefRetInIdeal.main_arg0) = m ((c.tc : Thread Cert.RetInIdeal.nD Cert.RetInIdeal.τ).loc Cert.RetInIdeal.main_arg0)
      ∧ m' ((c.tc : Thread Cert.RefRetInIdeal.nD Cert.RefRetInIdeal.τ).loc Cert.RefRetInIdeal.main_arg1) = m ((c.tc : Thread Cert.RetInIdeal.nD Cert.RetInIdeal.τ).loc Cert.RetInIdeal.main_arg1)) →
    ∃ (v0 : (c : Dev Cert.RetInIdeal.nD) → Buf (Elt Ideal) ((c.tc : Thread Cert.RetInIdeal.nD Cert.RetInIdeal.τ).loc Cert.RetInIdeal.main_v2)),
      θ_run (Cert.RetInIdeal.defs (F := Ideal)) (onTc (τ := Cert.RetInIdeal.τ) (Cert.RetInIdeal.main (F := Ideal))) ⟨m, fun _ => 0, g⟩ (fun r => ∀ c : Dev Cert.RetInIdeal.nD,
          r.2.mem ((c.tc : Thread Cert.RetInIdeal.nD Cert.RetInIdeal.τ).loc Cert.RetInIdeal.main_v2) = v0 c
          ∧ r.2.mem ((c.tc : Thread Cert.RetInIdeal.nD Cert.RetInIdeal.τ).loc Cert.RetInIdeal.main_arg0) = m ((c.tc : Thread Cert.RetInIdeal.nD Cert.RetInIdeal.τ).loc Cert.RetInIdeal.main_arg0)
          ∧ r.2.mem ((c.tc : Thread Cert.RetInIdeal.nD Cert.RetInIdeal.τ).loc Cert.RetInIdeal.main_arg1) = m ((c.tc : Thread Cert.RetInIdeal.nD Cert.RetInIdeal.τ).loc Cert.RetInIdeal.main_arg1))
      ∧ θ_run (Cert.RefRetInIdeal.defs (F := Ideal)) (onTc (τ := Cert.RefRetInIdeal.τ) (Cert.RefRetInIdeal.main (F := Ideal))) ⟨m', fun _ => 0, g'⟩ (fun r => ∀ c : Dev Cert.RefRetInIdeal.nD,
          r.2.mem ((c.tc : Thread Cert.RefRetInIdeal.nD Cert.RefRetInIdeal.τ).loc Cert.RefRetInIdeal.main_v4) = v0 c
          ∧ r.2.mem ((c.tc : Thread Cert.RefRetInIdeal.nD Cert.RefRetInIdeal.τ).loc Cert.RefRetInIdeal.main_arg0) = m' ((c.tc : Thread Cert.RefRetInIdeal.nD Cert.RefRetInIdeal.τ).loc Cert.RefRetInIdeal.main_arg0)
          ∧ r.2.mem ((c.tc : Thread Cert.RefRetInIdeal.nD Cert.RefRetInIdeal.τ).loc Cert.RefRetInIdeal.main_arg1) = m' ((c.tc : Thread Cert.RefRetInIdeal.nD Cert.RefRetInIdeal.τ).loc Cert.RefRetInIdeal.main_arg1))

def preserves_GdnIn_GdnInIdeal : Prop :=
  True

def algebraic_GdnInIdeal_RefGdnInIdeal [hGdnInIdeal : Cert.GdnInIdeal.Facts] [hRefGdnInIdeal : Cert.RefGdnInIdeal.Facts] : Prop :=
  ∀ (m : (ℓ : Loc Cert.GdnInIdeal.nD Cert.GdnInIdeal.τ Cert.GdnInIdeal.sig) → Buf (Elt Ideal) ℓ) (g : Dev Cert.GdnInIdeal.nD → PrngReg)
    (m' : (ℓ : Loc Cert.RefGdnInIdeal.nD Cert.RefGdnInIdeal.τ Cert.RefGdnInIdeal.sig) → Buf (Elt Ideal) ℓ) (g' : Dev Cert.RefGdnInIdeal.nD → PrngReg), Pre_GdnInIdeal m →
    (∀ c : Dev Cert.GdnInIdeal.nD,
      m' ((c.tc : Thread Cert.RefGdnInIdeal.nD Cert.RefGdnInIdeal.τ).loc Cert.RefGdnInIdeal.main_arg0) = m ((c.tc : Thread Cert.GdnInIdeal.nD Cert.GdnInIdeal.τ).loc Cert.GdnInIdeal.main_arg0)
      ∧ m' ((c.tc : Thread Cert.RefGdnInIdeal.nD Cert.RefGdnInIdeal.τ).loc Cert.RefGdnInIdeal.main_arg1) = m ((c.tc : Thread Cert.GdnInIdeal.nD Cert.GdnInIdeal.τ).loc Cert.GdnInIdeal.main_arg1)) →
    ∃ (v0 : (c : Dev Cert.GdnInIdeal.nD) → Buf (Elt Ideal) ((c.tc : Thread Cert.GdnInIdeal.nD Cert.GdnInIdeal.τ).loc Cert.GdnInIdeal.main_v3)),
      θ_run (Cert.GdnInIdeal.defs (F := Ideal)) (onTc (τ := Cert.GdnInIdeal.τ) (Cert.GdnInIdeal.main (F := Ideal))) ⟨m, fun _ => 0, g⟩ (fun r => ∀ c : Dev Cert.GdnInIdeal.nD,
          r.2.mem ((c.tc : Thread Cert.GdnInIdeal.nD Cert.GdnInIdeal.τ).loc Cert.GdnInIdeal.main_v3) = v0 c
          ∧ r.2.mem ((c.tc : Thread Cert.GdnInIdeal.nD Cert.GdnInIdeal.τ).loc Cert.GdnInIdeal.main_arg0) = m ((c.tc : Thread Cert.GdnInIdeal.nD Cert.GdnInIdeal.τ).loc Cert.GdnInIdeal.main_arg0)
          ∧ r.2.mem ((c.tc : Thread Cert.GdnInIdeal.nD Cert.GdnInIdeal.τ).loc Cert.GdnInIdeal.main_arg1) = m ((c.tc : Thread Cert.GdnInIdeal.nD Cert.GdnInIdeal.τ).loc Cert.GdnInIdeal.main_arg1))
      ∧ θ_run (Cert.RefGdnInIdeal.defs (F := Ideal)) (onTc (τ := Cert.RefGdnInIdeal.τ) (Cert.RefGdnInIdeal.main (F := Ideal))) ⟨m', fun _ => 0, g'⟩ (fun r => ∀ c : Dev Cert.RefGdnInIdeal.nD,
          r.2.mem ((c.tc : Thread Cert.RefGdnInIdeal.nD Cert.RefGdnInIdeal.τ).loc Cert.RefGdnInIdeal.main_v5) = v0 c
          ∧ r.2.mem ((c.tc : Thread Cert.RefGdnInIdeal.nD Cert.RefGdnInIdeal.τ).loc Cert.RefGdnInIdeal.main_arg0) = m' ((c.tc : Thread Cert.RefGdnInIdeal.nD Cert.RefGdnInIdeal.τ).loc Cert.RefGdnInIdeal.main_arg0)
          ∧ r.2.mem ((c.tc : Thread Cert.RefGdnInIdeal.nD Cert.RefGdnInIdeal.τ).loc Cert.RefGdnInIdeal.main_arg1) = m' ((c.tc : Thread Cert.RefGdnInIdeal.nD Cert.RefGdnInIdeal.τ).loc Cert.RefGdnInIdeal.main_arg1))

def preserves_MemKv_MemKvIdeal : Prop :=
  True

def algebraic_MemKvIdeal_RefMemKvIdeal [hMemKvIdeal : Cert.MemKvIdeal.Facts] [hRefMemKvIdeal : Cert.RefMemKvIdeal.Facts] : Prop :=
  ∀ (m : (ℓ : Loc Cert.MemKvIdeal.nD Cert.MemKvIdeal.τ Cert.MemKvIdeal.sig) → Buf (Elt Ideal) ℓ) (g : Dev Cert.MemKvIdeal.nD → PrngReg)
    (m' : (ℓ : Loc Cert.RefMemKvIdeal.nD Cert.RefMemKvIdeal.τ Cert.RefMemKvIdeal.sig) → Buf (Elt Ideal) ℓ) (g' : Dev Cert.RefMemKvIdeal.nD → PrngReg), Pre_MemKvIdeal m →
    (∀ c : Dev Cert.MemKvIdeal.nD,
      m' ((c.tc : Thread Cert.RefMemKvIdeal.nD Cert.RefMemKvIdeal.τ).loc Cert.RefMemKvIdeal.main_arg0) = m ((c.tc : Thread Cert.MemKvIdeal.nD Cert.MemKvIdeal.τ).loc Cert.MemKvIdeal.main_arg0)
      ∧ m' ((c.tc : Thread Cert.RefMemKvIdeal.nD Cert.RefMemKvIdeal.τ).loc Cert.RefMemKvIdeal.main_arg1) = m ((c.tc : Thread Cert.MemKvIdeal.nD Cert.MemKvIdeal.τ).loc Cert.MemKvIdeal.main_arg1)) →
    ∃ (v0 : (c : Dev Cert.MemKvIdeal.nD) → Buf (Elt Ideal) ((c.tc : Thread Cert.MemKvIdeal.nD Cert.MemKvIdeal.τ).loc Cert.MemKvIdeal.main_v2)),
      θ_run (Cert.MemKvIdeal.defs (F := Ideal)) (onTc (τ := Cert.MemKvIdeal.τ) (Cert.MemKvIdeal.main (F := Ideal))) ⟨m, fun _ => 0, g⟩ (fun r => ∀ c : Dev Cert.MemKvIdeal.nD,
          r.2.mem ((c.tc : Thread Cert.MemKvIdeal.nD Cert.MemKvIdeal.τ).loc Cert.MemKvIdeal.main_v2) = v0 c
          ∧ r.2.mem ((c.tc : Thread Cert.MemKvIdeal.nD Cert.MemKvIdeal.τ).loc Cert.MemKvIdeal.main_arg0) = m ((c.tc : Thread Cert.MemKvIdeal.nD Cert.MemKvIdeal.τ).loc Cert.MemKvIdeal.main_arg0)
          ∧ r.2.mem ((c.tc : Thread Cert.MemKvIdeal.nD Cert.MemKvIdeal.τ).loc Cert.MemKvIdeal.main_arg1) = m ((c.tc : Thread Cert.MemKvIdeal.nD Cert.MemKvIdeal.τ).loc Cert.MemKvIdeal.main_arg1))
      ∧ θ_run (Cert.RefMemKvIdeal.defs (F := Ideal)) (onTc (τ := Cert.RefMemKvIdeal.τ) (Cert.RefMemKvIdeal.main (F := Ideal))) ⟨m', fun _ => 0, g'⟩ (fun r => ∀ c : Dev Cert.RefMemKvIdeal.nD,
          r.2.mem ((c.tc : Thread Cert.RefMemKvIdeal.nD Cert.RefMemKvIdeal.τ).loc Cert.RefMemKvIdeal.main_v14) = v0 c
          ∧ r.2.mem ((c.tc : Thread Cert.RefMemKvIdeal.nD Cert.RefMemKvIdeal.τ).loc Cert.RefMemKvIdeal.main_arg0) = m' ((c.tc : Thread Cert.RefMemKvIdeal.nD Cert.RefMemKvIdeal.τ).loc Cert.RefMemKvIdeal.main_arg0)
          ∧ r.2.mem ((c.tc : Thread Cert.RefMemKvIdeal.nD Cert.RefMemKvIdeal.τ).loc Cert.RefMemKvIdeal.main_arg1) = m' ((c.tc : Thread Cert.RefMemKvIdeal.nD Cert.RefMemKvIdeal.τ).loc Cert.RefMemKvIdeal.main_arg1))

def preserves_GateOut_GateOutIdeal : Prop :=
  True

def algebraic_GateOutIdeal_RefGateOutIdeal [hGateOutIdeal : Cert.GateOutIdeal.Facts] [hRefGateOutIdeal : Cert.RefGateOutIdeal.Facts] : Prop :=
  ∀ (m : (ℓ : Loc Cert.GateOutIdeal.nD Cert.GateOutIdeal.τ Cert.GateOutIdeal.sig) → Buf (Elt Ideal) ℓ) (g : Dev Cert.GateOutIdeal.nD → PrngReg)
    (m' : (ℓ : Loc Cert.RefGateOutIdeal.nD Cert.RefGateOutIdeal.τ Cert.RefGateOutIdeal.sig) → Buf (Elt Ideal) ℓ) (g' : Dev Cert.RefGateOutIdeal.nD → PrngReg), Pre_GateOutIdeal m →
    (∀ c : Dev Cert.GateOutIdeal.nD,
      m' ((c.tc : Thread Cert.RefGateOutIdeal.nD Cert.RefGateOutIdeal.τ).loc Cert.RefGateOutIdeal.main_arg0) = m ((c.tc : Thread Cert.GateOutIdeal.nD Cert.GateOutIdeal.τ).loc Cert.GateOutIdeal.main_arg0)
      ∧ m' ((c.tc : Thread Cert.RefGateOutIdeal.nD Cert.RefGateOutIdeal.τ).loc Cert.RefGateOutIdeal.main_arg1) = m ((c.tc : Thread Cert.GateOutIdeal.nD Cert.GateOutIdeal.τ).loc Cert.GateOutIdeal.main_arg1)
      ∧ m' ((c.tc : Thread Cert.RefGateOutIdeal.nD Cert.RefGateOutIdeal.τ).loc Cert.RefGateOutIdeal.main_arg2) = m ((c.tc : Thread Cert.GateOutIdeal.nD Cert.GateOutIdeal.τ).loc Cert.GateOutIdeal.main_arg2)
      ∧ m' ((c.tc : Thread Cert.RefGateOutIdeal.nD Cert.RefGateOutIdeal.τ).loc Cert.RefGateOutIdeal.main_arg3) = m ((c.tc : Thread Cert.GateOutIdeal.nD Cert.GateOutIdeal.τ).loc Cert.GateOutIdeal.main_arg3)
      ∧ m' ((c.tc : Thread Cert.RefGateOutIdeal.nD Cert.RefGateOutIdeal.τ).loc Cert.RefGateOutIdeal.main_arg4) = m ((c.tc : Thread Cert.GateOutIdeal.nD Cert.GateOutIdeal.τ).loc Cert.GateOutIdeal.main_arg4)
      ∧ m' ((c.tc : Thread Cert.RefGateOutIdeal.nD Cert.RefGateOutIdeal.τ).loc Cert.RefGateOutIdeal.main_arg5) = m ((c.tc : Thread Cert.GateOutIdeal.nD Cert.GateOutIdeal.τ).loc Cert.GateOutIdeal.main_arg5)
      ∧ m' ((c.tc : Thread Cert.RefGateOutIdeal.nD Cert.RefGateOutIdeal.τ).loc Cert.RefGateOutIdeal.main_arg6) = m ((c.tc : Thread Cert.GateOutIdeal.nD Cert.GateOutIdeal.τ).loc Cert.GateOutIdeal.main_arg6)) →
    ∃ (v0 : (c : Dev Cert.GateOutIdeal.nD) → Buf (Elt Ideal) ((c.tc : Thread Cert.GateOutIdeal.nD Cert.GateOutIdeal.τ).loc Cert.GateOutIdeal.main_v10_0)) (v1 : (c : Dev Cert.GateOutIdeal.nD) → Buf (Elt Ideal) ((c.tc : Thread Cert.GateOutIdeal.nD Cert.GateOutIdeal.τ).loc Cert.GateOutIdeal.main_v10_1)),
      θ_run (Cert.GateOutIdeal.defs (F := Ideal)) (onTc (τ := Cert.GateOutIdeal.τ) (Cert.GateOutIdeal.main (F := Ideal))) ⟨m, fun _ => 0, g⟩ (fun r => ∀ c : Dev Cert.GateOutIdeal.nD,
          r.2.mem ((c.tc : Thread Cert.GateOutIdeal.nD Cert.GateOutIdeal.τ).loc Cert.GateOutIdeal.main_v10_0) = v0 c
          ∧ r.2.mem ((c.tc : Thread Cert.GateOutIdeal.nD Cert.GateOutIdeal.τ).loc Cert.GateOutIdeal.main_v10_1) = v1 c
          ∧ r.2.mem ((c.tc : Thread Cert.GateOutIdeal.nD Cert.GateOutIdeal.τ).loc Cert.GateOutIdeal.main_arg0) = m ((c.tc : Thread Cert.GateOutIdeal.nD Cert.GateOutIdeal.τ).loc Cert.GateOutIdeal.main_arg0)
          ∧ r.2.mem ((c.tc : Thread Cert.GateOutIdeal.nD Cert.GateOutIdeal.τ).loc Cert.GateOutIdeal.main_arg1) = m ((c.tc : Thread Cert.GateOutIdeal.nD Cert.GateOutIdeal.τ).loc Cert.GateOutIdeal.main_arg1)
          ∧ r.2.mem ((c.tc : Thread Cert.GateOutIdeal.nD Cert.GateOutIdeal.τ).loc Cert.GateOutIdeal.main_arg2) = m ((c.tc : Thread Cert.GateOutIdeal.nD Cert.GateOutIdeal.τ).loc Cert.GateOutIdeal.main_arg2)
          ∧ r.2.mem ((c.tc : Thread Cert.GateOutIdeal.nD Cert.GateOutIdeal.τ).loc Cert.GateOutIdeal.main_arg3) = m ((c.tc : Thread Cert.GateOutIdeal.nD Cert.GateOutIdeal.τ).loc Cert.GateOutIdeal.main_arg3)
          ∧ r.2.mem ((c.tc : Thread Cert.GateOutIdeal.nD Cert.GateOutIdeal.τ).loc Cert.GateOutIdeal.main_arg4) = m ((c.tc : Thread Cert.GateOutIdeal.nD Cert.GateOutIdeal.τ).loc Cert.GateOutIdeal.main_arg4)
          ∧ r.2.mem ((c.tc : Thread Cert.GateOutIdeal.nD Cert.GateOutIdeal.τ).loc Cert.GateOutIdeal.main_arg5) = m ((c.tc : Thread Cert.GateOutIdeal.nD Cert.GateOutIdeal.τ).loc Cert.GateOutIdeal.main_arg5)
          ∧ r.2.mem ((c.tc : Thread Cert.GateOutIdeal.nD Cert.GateOutIdeal.τ).loc Cert.GateOutIdeal.main_arg6) = m ((c.tc : Thread Cert.GateOutIdeal.nD Cert.GateOutIdeal.τ).loc Cert.GateOutIdeal.main_arg6))
      ∧ θ_run (Cert.RefGateOutIdeal.defs (F := Ideal)) (onTc (τ := Cert.RefGateOutIdeal.τ) (Cert.RefGateOutIdeal.main (F := Ideal))) ⟨m', fun _ => 0, g'⟩ (fun r => ∀ c : Dev Cert.RefGateOutIdeal.nD,
          r.2.mem ((c.tc : Thread Cert.RefGateOutIdeal.nD Cert.RefGateOutIdeal.τ).loc Cert.RefGateOutIdeal.main_v65) = v0 c
          ∧ r.2.mem ((c.tc : Thread Cert.RefGateOutIdeal.nD Cert.RefGateOutIdeal.τ).loc Cert.RefGateOutIdeal.main_v66) = v1 c
          ∧ r.2.mem ((c.tc : Thread Cert.RefGateOutIdeal.nD Cert.RefGateOutIdeal.τ).loc Cert.RefGateOutIdeal.main_arg0) = m' ((c.tc : Thread Cert.RefGateOutIdeal.nD Cert.RefGateOutIdeal.τ).loc Cert.RefGateOutIdeal.main_arg0)
          ∧ r.2.mem ((c.tc : Thread Cert.RefGateOutIdeal.nD Cert.RefGateOutIdeal.τ).loc Cert.RefGateOutIdeal.main_arg1) = m' ((c.tc : Thread Cert.RefGateOutIdeal.nD Cert.RefGateOutIdeal.τ).loc Cert.RefGateOutIdeal.main_arg1)
          ∧ r.2.mem ((c.tc : Thread Cert.RefGateOutIdeal.nD Cert.RefGateOutIdeal.τ).loc Cert.RefGateOutIdeal.main_arg2) = m' ((c.tc : Thread Cert.RefGateOutIdeal.nD Cert.RefGateOutIdeal.τ).loc Cert.RefGateOutIdeal.main_arg2)
          ∧ r.2.mem ((c.tc : Thread Cert.RefGateOutIdeal.nD Cert.RefGateOutIdeal.τ).loc Cert.RefGateOutIdeal.main_arg3) = m' ((c.tc : Thread Cert.RefGateOutIdeal.nD Cert.RefGateOutIdeal.τ).loc Cert.RefGateOutIdeal.main_arg3)
          ∧ r.2.mem ((c.tc : Thread Cert.RefGateOutIdeal.nD Cert.RefGateOutIdeal.τ).loc Cert.RefGateOutIdeal.main_arg4) = m' ((c.tc : Thread Cert.RefGateOutIdeal.nD Cert.RefGateOutIdeal.τ).loc Cert.RefGateOutIdeal.main_arg4)
          ∧ r.2.mem ((c.tc : Thread Cert.RefGateOutIdeal.nD Cert.RefGateOutIdeal.τ).loc Cert.RefGateOutIdeal.main_arg5) = m' ((c.tc : Thread Cert.RefGateOutIdeal.nD Cert.RefGateOutIdeal.τ).loc Cert.RefGateOutIdeal.main_arg5)
          ∧ r.2.mem ((c.tc : Thread Cert.RefGateOutIdeal.nD Cert.RefGateOutIdeal.τ).loc Cert.RefGateOutIdeal.main_arg6) = m' ((c.tc : Thread Cert.RefGateOutIdeal.nD Cert.RefGateOutIdeal.τ).loc Cert.RefGateOutIdeal.main_arg6))

def Claim : Prop :=
  ∃ (hKernel : Cert.Kernel.Facts) (hKernelIdeal : Cert.KernelIdeal.Facts) (hReferenceIdeal : Cert.ReferenceIdeal.Facts) (hRetIn : Cert.RetIn.Facts) (hRetInIdeal : Cert.RetInIdeal.Facts) (hRefRetInIdeal : Cert.RefRetInIdeal.Facts) (hGdnIn : Cert.GdnIn.Facts) (hGdnInIdeal : Cert.GdnInIdeal.Facts) (hRefGdnInIdeal : Cert.RefGdnInIdeal.Facts) (hMemKv : Cert.MemKv.Facts) (hMemKvIdeal : Cert.MemKvIdeal.Facts) (hRefMemKvIdeal : Cert.RefMemKvIdeal.Facts) (hGateOut : Cert.GateOut.Facts) (hGateOutIdeal : Cert.GateOutIdeal.Facts) (hRefGateOutIdeal : Cert.RefGateOutIdeal.Facts) (hPre_rotary_tables : Cert.Pre_rotary_tables.Facts),
    quiescent_Kernel (hKernel := hKernel)
    ∧ quiescent_KernelIdeal (hKernelIdeal := hKernelIdeal)
    ∧ quiescent_KernelIdeal_pre_rotary_tables (hKernelIdeal := hKernelIdeal) (hPre_rotary_tables := hPre_rotary_tables)
    ∧ quiescent_ReferenceIdeal (hReferenceIdeal := hReferenceIdeal)
    ∧ quiescent_ReferenceIdeal_pre_rotary_tables (hReferenceIdeal := hReferenceIdeal) (hPre_rotary_tables := hPre_rotary_tables)
    ∧ quiescent_RetIn (hRetIn := hRetIn)
    ∧ quiescent_RetInIdeal (hRetInIdeal := hRetInIdeal)
    ∧ quiescent_RefRetInIdeal (hRefRetInIdeal := hRefRetInIdeal)
    ∧ quiescent_GdnIn (hGdnIn := hGdnIn)
    ∧ quiescent_GdnInIdeal (hGdnInIdeal := hGdnInIdeal)
    ∧ quiescent_RefGdnInIdeal (hRefGdnInIdeal := hRefGdnInIdeal)
    ∧ quiescent_MemKv (hMemKv := hMemKv)
    ∧ quiescent_MemKvIdeal (hMemKvIdeal := hMemKvIdeal)
    ∧ quiescent_RefMemKvIdeal (hRefMemKvIdeal := hRefMemKvIdeal)
    ∧ quiescent_GateOut (hGateOut := hGateOut)
    ∧ quiescent_GateOutIdeal (hGateOutIdeal := hGateOutIdeal)
    ∧ quiescent_RefGateOutIdeal (hRefGateOutIdeal := hRefGateOutIdeal)
    ∧ preserves_Kernel_KernelIdeal
    ∧ algebraic_KernelIdeal_ReferenceIdeal_pre_rotary_tables (hKernelIdeal := hKernelIdeal) (hReferenceIdeal := hReferenceIdeal) (hPre_rotary_tables := hPre_rotary_tables)
    ∧ preserves_RetIn_RetInIdeal
    ∧ algebraic_RetInIdeal_RefRetInIdeal (hRetInIdeal := hRetInIdeal) (hRefRetInIdeal := hRefRetInIdeal)
    ∧ preserves_GdnIn_GdnInIdeal
    ∧ algebraic_GdnInIdeal_RefGdnInIdeal (hGdnInIdeal := hGdnInIdeal) (hRefGdnInIdeal := hRefGdnInIdeal)
    ∧ preserves_MemKv_MemKvIdeal
    ∧ algebraic_MemKvIdeal_RefMemKvIdeal (hMemKvIdeal := hMemKvIdeal) (hRefMemKvIdeal := hRefMemKvIdeal)
    ∧ preserves_GateOut_GateOutIdeal
    ∧ algebraic_GateOutIdeal_RefGateOutIdeal (hGateOutIdeal := hGateOutIdeal) (hRefGateOutIdeal := hRefGateOutIdeal)
-- ==== Pre_rotary_tables.lean ====
abbrev S4x4096x11264 : Shape := ⟨3, ![4, 4096, 11264]⟩
abbrev S4x4096x128 : Shape := ⟨3, ![4, 4096, 128]⟩
abbrev S3072 : Shape := ⟨1, ![3072]⟩
abbrev S4x4096x6144 : Shape := ⟨3, ![4, 4096, 6144]⟩
abbrev S_ : Shape := ⟨0, ![]⟩
abbrev S4x4096x64 : Shape := ⟨3, ![4, 4096, 64]⟩

class Facts : Prop where
  slices_S4x4096x11264_S4x4096x6144_0_0_0 : S4x4096x11264.Slices ![0, 0, 0] S4x4096x6144
  bitsLt_bf16_f32 : FTy.bits .bf16 < FTy.bits .f32
  bcast_S_S4x4096x6144 : S_.BroadcastsInDim S4x4096x6144 (![] : Fin 0 → Fin S4x4096x6144.rank)
  reducesTo_S4x4096x6144_S_d0_1_2 : S4x4096x6144.ReducesTo [0, 1, 2] S_
  h_S_ : 0 < S_.numel
  bcast_S_S4x4096x128 : S_.BroadcastsInDim S4x4096x128 (![] : Fin 0 → Fin S4x4096x128.rank)
  reducesTo_S4x4096x128_S_d0_1_2 : S4x4096x128.ReducesTo [0, 1, 2] S_
  slices_S4x4096x128_S4x4096x64_0_0_0 : S4x4096x128.Slices ![0, 0, 0] S4x4096x64
  slices_S4x4096x128_S4x4096x64_0_0_64 : S4x4096x128.Slices ![0, 0, 64] S4x4096x64
  reducesTo_S4x4096x64_S_d0_1_2 : S4x4096x64.ReducesTo [0, 1, 2] S_

variable [Facts]

def fn_part1 {F : FTy → Type} [FloatOps F] (main_arg2 : FVec F S4x4096x128 .f32) (main_v15 : IVec S_ 1) (main_v16 : FVec F S4x4096x64 .f32) (main_v17 : FVec F S4x4096x64 .f32) : IVec S_ 1 :=
  let main_v18 : IVec S4x4096x64 1 := cmpf .oeq main_v16 main_v17
  let main_c_4 : IVec S_ 1 := constantI S_ 1 1#1
  let main_v19 : IVec S_ 1 := (fun x v => Host.reduce IntOp.andi x v reducesTo_S4x4096x64_S_d0_1_2 h_S_) main_v18 main_c_4
  let main_v20 : IVec S_ 1 := andi main_v15 main_v19
  let main_v21 : FVec F S4x4096x64 .f32 := (extractStridedSlice S4x4096x64 ![0, 0, 0] · slices_S4x4096x128_S4x4096x64_0_0_0) main_arg2
  let main_v22 : FVec F S4x4096x64 .f32 := (extractStridedSlice S4x4096x64 ![0, 0, 64] · slices_S4x4096x128_S4x4096x64_0_0_64) main_arg2
  let main_v23 : FVec F S4x4096x64 .f32 := Host.negf main_v22
  let main_v24 : IVec S4x4096x64 1 := cmpf .oeq main_v21 main_v23
  let main_c_5 : IVec S_ 1 := constantI S_ 1 1#1
  let main_v25 : IVec S_ 1 := (fun x v => Host.reduce IntOp.andi x v reducesTo_S4x4096x64_S_d0_1_2 h_S_) main_v24 main_c_5
  let main_v26 : IVec S_ 1 := andi main_v20 main_v25
  main_v26

def fn {F : FTy → Type} [FloatOps F] (main_arg0 : FVec F S4x4096x11264 .bf16) (main_arg1 : FVec F S4x4096x128 .f32) (main_arg2 : FVec F S4x4096x128 .f32) (main_arg3 : FVec F S3072 .f32) : IVec S_ 1 :=
  let main_v0 : FVec F S4x4096x6144 .bf16 := (extractStridedSlice S4x4096x6144 ![0, 0, 0] · slices_S4x4096x11264_S4x4096x6144_0_0_0) main_arg0
  let main_v1 : FVec F S4x4096x6144 .f32 := (extf .f32 · bitsLt_bf16_f32) main_v0
  let main_v2 : FVec F S4x4096x6144 .f32 := Host.absf main_v1
  let main_cst : FVec F S_ .f32 := constant S_ .f32 0x7F800000#32
  let main_v3 : FVec F S4x4096x6144 .f32 := broadcastInDim S4x4096x6144 ![] bcast_S_S4x4096x6144 main_cst
  let main_v4 : IVec S4x4096x6144 1 := cmpf .olt main_v2 main_v3
  let main_c : IVec S_ 1 := constantI S_ 1 1#1
  let main_v5 : IVec S_ 1 := (fun x v => Host.reduce IntOp.andi x v reducesTo_S4x4096x6144_S_d0_1_2 h_S_) main_v4 main_c
  let main_v6 : FVec F S4x4096x128 .f32 := Host.absf main_arg1
  let main_cst_0 : FVec F S_ .f32 := constant S_ .f32 0x7F800000#32
  let main_v7 : FVec F S4x4096x128 .f32 := broadcastInDim S4x4096x128 ![] bcast_S_S4x4096x128 main_cst_0
  let main_v8 : IVec S4x4096x128 1 := cmpf .olt main_v6 main_v7
  let main_c_1 : IVec S_ 1 := constantI S_ 1 1#1
  let main_v9 : IVec S_ 1 := (fun x v => Host.reduce IntOp.andi x v reducesTo_S4x4096x128_S_d0_1_2 h_S_) main_v8 main_c_1
  let main_v10 : IVec S_ 1 := andi main_v5 main_v9
  let main_v11 : FVec F S4x4096x128 .f32 := Host.absf main_arg2
  let main_cst_2 : FVec F S_ .f32 := constant S_ .f32 0x7F800000#32
  let main_v12 : FVec F S4x4096x128 .f32 := broadcastInDim S4x4096x128 ![] bcast_S_S4x4096x128 main_cst_2
  let main_v13 : IVec S4x4096x128 1 := cmpf .olt main_v11 main_v12
  let main_c_3 : IVec S_ 1 := constantI S_ 1 1#1
  let main_v14 : IVec S_ 1 := (fun x v => Host.reduce IntOp.andi x v reducesTo_S4x4096x128_S_d0_1_2 h_S_) main_v13 main_c_3
  let main_v15 : IVec S_ 1 := andi main_v10 main_v14
  let main_v16 : FVec F S4x4096x64 .f32 := (extractStridedSlice S4x4096x64 ![0, 0, 0] · slices_S4x4096x128_S4x4096x64_0_0_0) main_arg1
  let main_v17 : FVec F S4x4096x64 .f32 := (extractStridedSlice S4x4096x64 ![0, 0, 64] · slices_S4x4096x128_S4x4096x64_0_0_64) main_arg1
  fn_part1 (F := F) main_arg2 main_v15 main_v16 main_v17
-- ==== Kernel.lean ====
abbrev S4x4096x11264 : Shape := ⟨3, ![4, 4096, 11264]⟩
abbrev S4x4096x128 : Shape := ⟨3, ![4, 4096, 128]⟩
abbrev S3072 : Shape := ⟨1, ![3072]⟩
abbrev S12 : Shape := ⟨1, ![12]⟩
abbrev S_ : Shape := ⟨0, ![]⟩
abbrev S1x3072 : Shape := ⟨2, ![1, 3072]⟩
abbrev S4x4096x3072 : Shape := ⟨3, ![4, 4096, 3072]⟩
abbrev S1x512x512 : Shape := ⟨3, ![1, 512, 512]⟩
abbrev S1x512x1024 : Shape := ⟨3, ![1, 512, 1024]⟩
abbrev S1x512x128 : Shape := ⟨3, ![1, 512, 128]⟩
abbrev S1x1024 : Shape := ⟨2, ![1, 1024]⟩
abbrev S4x128x256 : Shape := ⟨3, ![4, 128, 256]⟩
abbrev S4x512x512 : Shape := ⟨3, ![4, 512, 512]⟩
abbrev S512x512 : Shape := ⟨2, ![512, 512]⟩
abbrev S1 : Shape := ⟨1, ![1]⟩
abbrev S512x128 : Shape := ⟨2, ![512, 128]⟩
abbrev S1x512x256 : Shape := ⟨3, ![1, 512, 256]⟩
abbrev S512x256 : Shape := ⟨2, ![512, 256]⟩
abbrev S1x128x256 : Shape := ⟨3, ![1, 128, 256]⟩
abbrev S128x256 : Shape := ⟨2, ![128, 256]⟩
abbrev S512x640 : Shape := ⟨2, ![512, 640]⟩
abbrev S640x256 : Shape := ⟨2, ![640, 256]⟩
abbrev S512 : Shape := ⟨1, ![512]⟩
abbrev S512x1 : Shape := ⟨2, ![512, 1]⟩
abbrev S1x256 : Shape := ⟨2, ![1, 256]⟩

abbrev nBuf : Space → Nat
  | .hbm => 16
  | .vmem => 16
  | .smem => 1
  | _ => 0

abbrev bufTy : (tb : Table) → Fin (tcTables nBuf tb) → BufTy
  | .hbm, ⟨0, _⟩ => ⟨S4x4096x11264, .bf16⟩
  | .hbm, ⟨1, _⟩ => ⟨S4x4096x128, .f32⟩
  | .hbm, ⟨2, _⟩ => ⟨S4x4096x128, .f32⟩
  | .hbm, ⟨3, _⟩ => ⟨S3072, .f32⟩
  | .hbm, ⟨4, _⟩ => ⟨S12, .f32⟩
  | .hbm, ⟨5, _⟩ => ⟨S_, .f32⟩
  | .hbm, ⟨6, _⟩ => ⟨S12, .f32⟩
  | .hbm, ⟨7, _⟩ => ⟨S12, .f32⟩
  | .hbm, ⟨8, _⟩ => ⟨S_, .f32⟩
  | .hbm, ⟨9, _⟩ => ⟨S12, .f32⟩
  | .hbm, ⟨10, _⟩ => ⟨S12, .f32⟩
  | .hbm, ⟨11, _⟩ => ⟨S12, .f32⟩
  | .hbm, ⟨12, _⟩ => ⟨S12, .f32⟩
  | .hbm, ⟨13, _⟩ => ⟨S12, .f32⟩
  | .hbm, ⟨14, _⟩ => ⟨S1x3072, .f32⟩
  | .hbm, ⟨15, _⟩ => ⟨S4x4096x3072, .bf16⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S1x512x128, .f32⟩
  | .local _ .vmem, ⟨7, _⟩ => ⟨S1x512x128, .f32⟩
  | .local _ .vmem, ⟨8, _⟩ => ⟨S1x512x128, .f32⟩
  | .local _ .vmem, ⟨9, _⟩ => ⟨S1x512x128, .f32⟩
  | .local _ .vmem, ⟨10, _⟩ => ⟨S1x1024, .f32⟩
  | .local _ .vmem, ⟨11, _⟩ => ⟨S1x1024, .f32⟩
  | .local _ .vmem, ⟨12, _⟩ => ⟨S1x512x1024, .bf16⟩
  | .local _ .vmem, ⟨13, _⟩ => ⟨S1x512x1024, .bf16⟩
  | .local _ .vmem, ⟨14, _⟩ => ⟨S4x128x256, .f32⟩
  | .local _ .vmem, ⟨15, _⟩ => ⟨S4x512x512, .f32⟩
  | .local _ .smem, ⟨0, _⟩ => ⟨S12, .f32⟩
  | _, _ => ⟨S4x4096x11264, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![4, 3, 8], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) (c0_i32_153 : BitVec 32) : Fin 1 → Nat :=
  let c4_i32_152 : BitVec 32 := 4#32
  let arg1 : BitVec 32 := BitVec.ofNat 32 (i 1).val
  let v345 : BitVec 32 := Scalar.muli c4_i32_152 arg1
  let v346 : BitVec 32 := Scalar.addi v345 c0_i32_153
  let v347 : Index := Scalar.indexCast v346
  ![v347.toNat]
def k0_off2 (i : grid0.Coords) (c0_i32_6 : BitVec 32) : Fin 1 → Nat :=
  let c4_i32 : BitVec 32 := 4#32
  let arg1 : BitVec 32 := BitVec.ofNat 32 (i 1).val
  let v9 : BitVec 32 := Scalar.muli c4_i32 arg1
  let v10 : BitVec 32 := Scalar.addi v9 c0_i32_6
  let v11 : Index := Scalar.indexCast v10
  ![v11.toNat]
def cc0_transform_0 (i : grid0.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, arg2.toNat, v0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c3_i32 : BitVec 32 := 3#32
  let v0 : BitVec 32 := Scalar.addi c3_i32 arg1
  let c0_i32 : BitVec 32 := 0#32
  ![arg0.toNat, arg2.toNat, v0.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 1 → Memref sig .tc .smem S12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false, false]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, true]

abbrev stage0_5 : Fin 2 → Memref sig .tc .vmem S1x512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== ReferenceIdeal.lean ====
abbrev S4x4096x11264 : Shape := ⟨3, ![4, 4096, 11264]⟩
abbrev S4x4096x128 : Shape := ⟨3, ![4, 4096, 128]⟩
abbrev S3072 : Shape := ⟨1, ![3072]⟩
abbrev S4x4096x1536 : Shape := ⟨3, ![4, 4096, 1536]⟩
abbrev S4x4096x12x128 : Shape := ⟨4, ![4, 4096, 12, 128]⟩
abbrev S4x4096x3072 : Shape := ⟨3, ![4, 4096, 3072]⟩
abbrev S4x4096x12x256 : Shape := ⟨4, ![4, 4096, 12, 256]⟩
abbrev S4x4096x64 : Shape := ⟨3, ![4, 4096, 64]⟩
abbrev S4x4096x1x64 : Shape := ⟨4, ![4, 4096, 1, 64]⟩
abbrev S4x4096x12x64 : Shape := ⟨4, ![4, 4096, 12, 64]⟩
abbrev S12 : Shape := ⟨1, ![12]⟩
abbrev S_ : Shape := ⟨0, ![]⟩
abbrev S4x64x64x12x128 : Shape := ⟨5, ![4, 64, 64, 12, 128]⟩
abbrev S4x64x64x12x256 : Shape := ⟨5, ![4, 64, 64, 12, 256]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S1x64x64 : Shape := ⟨3, ![1, 64, 64]⟩
abbrev S12x1x1 : Shape := ⟨3, ![12, 1, 1]⟩
abbrev S12x64x64 : Shape := ⟨3, ![12, 64, 64]⟩
abbrev S4x64x12x64x64 : Shape := ⟨5, ![4, 64, 12, 64, 64]⟩
abbrev S1x1x12x64x64 : Shape := ⟨5, ![1, 1, 12, 64, 64]⟩
abbrev S4x64x12x256x64 : Shape := ⟨5, ![4, 64, 12, 256, 64]⟩
abbrev S1x12 : Shape := ⟨2, ![1, 12]⟩
abbrev S64x12 : Shape := ⟨2, ![64, 12]⟩
abbrev S4x12x128x256 : Shape := ⟨4, ![4, 12, 128, 256]⟩
abbrev S64x4x64x12x128 : Shape := ⟨5, ![64, 4, 64, 12, 128]⟩
abbrev S64x4x64x12x256 : Shape := ⟨5, ![64, 4, 64, 12, 256]⟩
abbrev S1x4x64x12x128 : Shape := ⟨5, ![1, 4, 64, 12, 128]⟩
abbrev S4x64x12x128 : Shape := ⟨4, ![4, 64, 12, 128]⟩
abbrev S1x4x64x12x256 : Shape := ⟨5, ![1, 4, 64, 12, 256]⟩
abbrev S4x64x12x256 : Shape := ⟨4, ![4, 64, 12, 256]⟩
abbrev S4x12x256x64 : Shape := ⟨4, ![4, 12, 256, 64]⟩
abbrev S1x64x12x1 : Shape := ⟨4, ![1, 64, 12, 1]⟩
abbrev S1x12x1x1 : Shape := ⟨4, ![1, 12, 1, 1]⟩
abbrev S4x4096x12 : Shape := ⟨3, ![4, 4096, 12]⟩
abbrev S4x4096x12x1 : Shape := ⟨4, ![4, 4096, 12, 1]⟩
abbrev S1x1x3072 : Shape := ⟨3, ![1, 1, 3072]⟩

abbrev nBuf : Space → Nat
  | .hbm => 210
  | .vmem => 0
  | .smem => 0
  | _ => 0

abbrev hbmTy0_0 (i : Nat) : BufTy := match i % 128 with
  | 0 => ⟨S4x4096x11264, .bf16⟩
  | 1 => ⟨S4x4096x128, .f32⟩
  | 2 => ⟨S4x4096x128, .f32⟩
  | 3 => ⟨S3072, .f32⟩
  | 4 => ⟨S4x4096x11264, .f32⟩
  | 5 => ⟨S4x4096x1536, .f32⟩
  | 6 => ⟨S4x4096x12x128, .f32⟩
  | 7 => ⟨S4x4096x1536, .f32⟩
  | 8 => ⟨S4x4096x12x128, .f32⟩
  | 9 => ⟨S4x4096x3072, .f32⟩
  | 10 => ⟨S4x4096x12x256, .f32⟩
  | 11 => ⟨S4x4096x64, .f32⟩
  | 12 => ⟨S4x4096x1x64, .f32⟩
  | 13 => ⟨S4x4096x64, .f32⟩
  | 14 => ⟨S4x4096x1x64, .f32⟩
  | 15 => ⟨S4x4096x12x64, .f32⟩
  | 16 => ⟨S4x4096x12x64, .f32⟩
  | 17 => ⟨S4x4096x12x64, .f32⟩
  | 18 => ⟨S4x4096x12x64, .f32⟩
  | 19 => ⟨S4x4096x12x64, .f32⟩
  | 20 => ⟨S4x4096x12x64, .f32⟩
  | 21 => ⟨S4x4096x12x64, .f32⟩
  | 22 => ⟨S4x4096x12x64, .f32⟩
  | 23 => ⟨S4x4096x12x64, .f32⟩
  | 24 => ⟨S4x4096x12x64, .f32⟩
  | 25 => ⟨S4x4096x12x64, .f32⟩
  | 26 => ⟨S4x4096x12x64, .f32⟩
  | 27 => ⟨S4x4096x12x128, .f32⟩
  | 28 => ⟨S4x4096x64, .f32⟩
  | 29 => ⟨S4x4096x1x64, .f32⟩
  | 30 => ⟨S4x4096x64, .f32⟩
  | 31 => ⟨S4x4096x1x64, .f32⟩
  | 32 => ⟨S4x4096x12x64, .f32⟩
  | 33 => ⟨S4x4096x12x64, .f32⟩
  | 34 => ⟨S4x4096x12x64, .f32⟩
  | 35 => ⟨S4x4096x12x64, .f32⟩
  | 36 => ⟨S4x4096x12x64, .f32⟩
  | 37 => ⟨S4x4096x12x64, .f32⟩
  | 38 => ⟨S4x4096x12x64, .f32⟩
  | 39 => ⟨S4x4096x12x64, .f32⟩
  | 40 => ⟨S4x4096x12x64, .f32⟩
  | 41 => ⟨S4x4096x12x64, .f32⟩
  | 42 => ⟨S4x4096x12x64, .f32⟩
  | 43 => ⟨S4x4096x12x64, .f32⟩
  | 44 => ⟨S4x4096x12x128, .f32⟩
  | 45 => ⟨S12, .f32⟩
  | 46 => ⟨S_, .f32⟩
  | 47 => ⟨S12, .f32⟩
  | 48 => ⟨S12, .f32⟩
  | 49 => ⟨S_, .f32⟩
  | 50 => ⟨S12, .f32⟩
  | 51 => ⟨S12, .f32⟩
  | 52 => ⟨S12, .f32⟩
  | 53 => ⟨S12, .f32⟩
  | 54 => ⟨S12, .f32⟩
  | 55 => ⟨S_, .f32⟩
  | 56 => ⟨S4x4096x12x128, .f32⟩
  | 57 => ⟨S4x4096x12x128, .f32⟩
  | 58 => ⟨S4x64x64x12x128, .f32⟩
  | 59 => ⟨S4x64x64x12x128, .f32⟩
  | 60 => ⟨S4x64x64x12x256, .f32⟩
  | 61 => ⟨S64, .f32⟩
  | 62 => ⟨S64x1, .f32⟩
  | 63 => ⟨S1x64, .f32⟩
  | 64 => ⟨S64x64, .f32⟩
  | 65 => ⟨S64x64, .f32⟩
  | 66 => ⟨S64x64, .f32⟩
  | 67 => ⟨S1x64x64, .f32⟩
  | 68 => ⟨S_, .f32⟩
  | 69 => ⟨S1x64x64, .f32⟩
  | 70 => ⟨S1x64x64, .i1⟩
  | 71 => ⟨S12x1x1, .f32⟩
  | 72 => ⟨S_, .f32⟩
  | 73 => ⟨S64x64, .f32⟩
  | 74 => ⟨S64x64, .f32⟩
  | 75 => ⟨S1x64x64, .f32⟩
  | 76 => ⟨S12x64x64, .f32⟩
  | 77 => ⟨S12x64x64, .f32⟩
  | 78 => ⟨S12x64x64, .f32⟩
  | 79 => ⟨S12x64x64, .f32⟩
  | 80 => ⟨S_, .f32⟩
  | 81 => ⟨S_, .f32⟩
  | 82 => ⟨S12x64x64, .i1⟩
  | 83 => ⟨S12x64x64, .f32⟩
  | 84 => ⟨S12x64x64, .f32⟩
  | 85 => ⟨S4x64x12x64x64, .f32⟩
  | 86 => ⟨S1x1x12x64x64, .f32⟩
  | 87 => ⟨S4x64x12x64x64, .f32⟩
  | 88 => ⟨S4x64x12x64x64, .f32⟩
  | 89 => ⟨S4x64x12x256x64, .f32⟩
  | 90 => ⟨S4x64x64x12x256, .f32⟩
  | 91 => ⟨S64x1, .f32⟩
  | 92 => ⟨S_, .f32⟩
  | 93 => ⟨S64x1, .f32⟩
  | 94 => ⟨S64x1, .f32⟩
  | 95 => ⟨S1x12, .f32⟩
  | 96 => ⟨S64x12, .f32⟩
  | 97 => ⟨S64x12, .f32⟩
  | 98 => ⟨S64x12, .f32⟩
  | 99 => ⟨S64x12, .f32⟩
  | 100 => ⟨S_, .f32⟩
  | 101 => ⟨S64, .f32⟩
  | 102 => ⟨S64, .f32⟩
  | 103 => ⟨S64x1, .f32⟩
  | 104 => ⟨S1x12, .f32⟩
  | 105 => ⟨S64x12, .f32⟩
  | 106 => ⟨S64x12, .f32⟩
  | 107 => ⟨S64x12, .f32⟩
  | 108 => ⟨S64x12, .f32⟩
  | 109 => ⟨S_, .f32⟩
  | 110 => ⟨S12, .f32⟩
  | 111 => ⟨S12, .f32⟩
  | 112 => ⟨S12, .f32⟩
  | 113 => ⟨S_, .f32⟩
  | 114 => ⟨S4x12x128x256, .f32⟩
  | 115 => ⟨S64x4x64x12x128, .f32⟩
  | 116 => ⟨S64x4x64x12x128, .f32⟩
  | 117 => ⟨S64x4x64x12x256, .f32⟩
  | 118 => ⟨S64x4x64x12x256, .f32⟩
  | 119 => ⟨S_, .f32⟩
  | 120 => ⟨S64x4x64x12x256, .f32⟩
  | 121 => ⟨S_, .i32⟩
  | 122 => ⟨S64x4x64x12x128, .f32⟩
  | 123 => ⟨S64x4x64x12x128, .f32⟩
  | 124 => ⟨S64x4x64x12x256, .f32⟩
  | 125 => ⟨S64x4x64x12x256, .f32⟩
  | 126 => ⟨S64x12, .f32⟩
  | 127 => ⟨S12, .f32⟩
  | _ => ⟨S4x4096x11264, .bf16⟩

abbrev hbmTy0_1 (i : Nat) : BufTy := match i % 128 with
  | 0 => ⟨S64x12, .f32⟩
  | 1 => ⟨S_, .i32⟩
  | 2 => ⟨S4x12x128x256, .f32⟩
  | 3 => ⟨S64x4x64x12x256, .f32⟩
  | 4 => ⟨S_, .i32⟩
  | 5 => ⟨S_, .i1⟩
  | 6 => ⟨S_, .i32⟩
  | 7 => ⟨S_, .i32⟩
  | 8 => ⟨S_, .i32⟩
  | 9 => ⟨S_, .i32⟩
  | 10 => ⟨S1x4x64x12x128, .f32⟩
  | 11 => ⟨S4x64x12x128, .f32⟩
  | 12 => ⟨S_, .i32⟩
  | 13 => ⟨S_, .i32⟩
  | 14 => ⟨S_, .i32⟩
  | 15 => ⟨S_, .i32⟩
  | 16 => ⟨S1x4x64x12x128, .f32⟩
  | 17 => ⟨S4x64x12x128, .f32⟩
  | 18 => ⟨S_, .i32⟩
  | 19 => ⟨S_, .i32⟩
  | 20 => ⟨S_, .i32⟩
  | 21 => ⟨S_, .i32⟩
  | 22 => ⟨S1x4x64x12x256, .f32⟩
  | 23 => ⟨S4x64x12x256, .f32⟩
  | 24 => ⟨S_, .i32⟩
  | 25 => ⟨S_, .i32⟩
  | 26 => ⟨S_, .i32⟩
  | 27 => ⟨S_, .i32⟩
  | 28 => ⟨S1x4x64x12x256, .f32⟩
  | 29 => ⟨S4x64x12x256, .f32⟩
  | 30 => ⟨S4x12x256x64, .f32⟩
  | 31 => ⟨S4x64x12x256, .f32⟩
  | 32 => ⟨S1x64x12x1, .f32⟩
  | 33 => ⟨S4x64x12x256, .f32⟩
  | 34 => ⟨S4x64x12x256, .f32⟩
  | 35 => ⟨S1x12x1x1, .f32⟩
  | 36 => ⟨S4x12x128x256, .f32⟩
  | 37 => ⟨S4x12x128x256, .f32⟩
  | 38 => ⟨S1x64x12x1, .f32⟩
  | 39 => ⟨S4x64x12x128, .f32⟩
  | 40 => ⟨S4x64x12x128, .f32⟩
  | 41 => ⟨S4x12x128x256, .f32⟩
  | 42 => ⟨S4x12x128x256, .f32⟩
  | 43 => ⟨S4x64x12x256, .f32⟩
  | 44 => ⟨S1x4x64x12x256, .f32⟩
  | 45 => ⟨S_, .i32⟩
  | 46 => ⟨S_, .i32⟩
  | 47 => ⟨S_, .i32⟩
  | 48 => ⟨S_, .i32⟩
  | 49 => ⟨S64x4x64x12x256, .f32⟩
  | 50 => ⟨S_, .i32⟩
  | 51 => ⟨S_, .i32⟩
  | 52 => ⟨S4x64x64x12x256, .f32⟩
  | 53 => ⟨S4x4096x12x256, .f32⟩
  | 54 => ⟨S_, .f32⟩
  | 55 => ⟨S4x4096x12, .f32⟩
  | 56 => ⟨S4x4096x12x1, .f32⟩
  | 57 => ⟨S_, .f32⟩
  | 58 => ⟨S4x4096x12x1, .f32⟩
  | 59 => ⟨S4x4096x12x1, .f32⟩
  | 60 => ⟨S4x4096x12x256, .f32⟩
  | 61 => ⟨S4x4096x12x256, .f32⟩
  | 62 => ⟨S4x4096x12x256, .f32⟩
  | 63 => ⟨S_, .f32⟩
  | 64 => ⟨S4x4096x12, .f32⟩
  | 65 => ⟨S4x4096x12x1, .f32⟩
  | 66 => ⟨S_, .f32⟩
  | 67 => ⟨S4x4096x12x1, .f32⟩
  | 68 => ⟨S4x4096x12x1, .f32⟩
  | 69 => ⟨S4x4096x12x256, .f32⟩
  | 70 => ⟨S4x4096x12x256, .f32⟩
  | 71 => ⟨S_, .f32⟩
  | 72 => ⟨S4x4096x12x1, .f32⟩
  | 73 => ⟨S4x4096x12x1, .f32⟩
  | 74 => ⟨S4x4096x12x1, .f32⟩
  | 75 => ⟨S4x4096x12x256, .f32⟩
  | 76 => ⟨S4x4096x12x256, .f32⟩
  | 77 => ⟨S4x4096x3072, .f32⟩
  | 78 => ⟨S1x1x3072, .f32⟩
  | 79 => ⟨S4x4096x3072, .f32⟩
  | 80 => ⟨S4x4096x3072, .f32⟩
  | 81 => ⟨S4x4096x3072, .bf16⟩
  | _ => ⟨S4x4096x11264, .bf16⟩

abbrev hbmTy (i : Nat) : BufTy := match i / 128 with
  | 0 => hbmTy0_0 i
  | 1 => hbmTy0_1 i
  | _ => ⟨S4x4096x11264, .bf16⟩

abbrev bufTy : (tb : Table) → Fin (tcTables nBuf tb) → BufTy
  | .hbm, ⟨i, _⟩ => hbmTy i
  | _, _ => ⟨S4x4096x11264, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_cst : Ref sig .tc := ⟨.hbm, 46, rfl⟩
abbrev main_v42 : Ref sig .tc := ⟨.hbm, 47, rfl⟩
abbrev main_v43 : Ref sig .tc := ⟨.hbm, 48, rfl⟩
abbrev main_cst_0 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_cst_1 : Ref sig .tc := ⟨.hbm, 55, rfl⟩
abbrev main_v49 : Ref sig .tc := ⟨.hbm, 56, rfl⟩
abbrev main_v50 : Ref sig .tc := ⟨.hbm, 57, rfl⟩
abbrev main_v51 : Ref sig .tc := ⟨.hbm, 58, rfl⟩
abbrev main_v52 : Ref sig .tc := ⟨.hbm, 59, rfl⟩
abbrev main_v53 : Ref sig .tc := ⟨.hbm, 60, rfl⟩
abbrev main_v54 : Ref sig .tc := ⟨.hbm, 61, rfl⟩
abbrev main_v55 : Ref sig .tc := ⟨.hbm, 62, rfl⟩
abbrev main_v56 : Ref sig .tc := ⟨.hbm, 63, rfl⟩
abbrev main_v57 : Ref sig .tc := ⟨.hbm, 64, rfl⟩
abbrev main_v58 : Ref sig .tc := ⟨.hbm, 65, rfl⟩
abbrev main_v59 : Ref sig .tc := ⟨.hbm, 66, rfl⟩
abbrev main_v60 : Ref sig .tc := ⟨.hbm, 67, rfl⟩
abbrev main_cst_2 : Ref sig .tc := ⟨.hbm, 68, rfl⟩
abbrev main_v61 : Ref sig .tc := ⟨.hbm, 69, rfl⟩
abbrev main_v62 : Ref sig .tc := ⟨.hbm, 70, rfl⟩
abbrev main_v63 : Ref sig .tc := ⟨.hbm, 71, rfl⟩
abbrev main_cst_3 : Ref sig .tc := ⟨.hbm, 72, rfl⟩
abbrev main_v64 : Ref sig .tc := ⟨.hbm, 73, rfl⟩
abbrev main_v65 : Ref sig .tc := ⟨.hbm, 74, rfl⟩
abbrev main_v66 : Ref sig .tc := ⟨.hbm, 75, rfl⟩
abbrev main_v67 : Ref sig .tc := ⟨.hbm, 76, rfl⟩
abbrev main_v68 : Ref sig .tc := ⟨.hbm, 77, rfl⟩
abbrev main_v69 : Ref sig .tc := ⟨.hbm, 78, rfl⟩
abbrev main_v70 : Ref sig .tc := ⟨.hbm, 79, rfl⟩
abbrev main_cst_4 : Ref sig .tc := ⟨.hbm, 80, rfl⟩
abbrev main_call0_v0 : Ref sig .tc := ⟨.hbm, 81, rfl⟩
abbrev main_call0_v1 : Ref sig .tc := ⟨.hbm, 82, rfl⟩
abbrev main_call0_v2 : Ref sig .tc := ⟨.hbm, 83, rfl⟩
abbrev main_v71 : Ref sig .tc := ⟨.hbm, 84, rfl⟩
abbrev main_v72 : Ref sig .tc := ⟨.hbm, 85, rfl⟩
abbrev main_v73 : Ref sig .tc := ⟨.hbm, 86, rfl⟩
abbrev main_v74 : Ref sig .tc := ⟨.hbm, 87, rfl⟩
abbrev main_v75 : Ref sig .tc := ⟨.hbm, 88, rfl⟩
abbrev main_v76 : Ref sig .tc := ⟨.hbm, 89, rfl⟩
abbrev main_v77 : Ref sig .tc := ⟨.hbm, 90, rfl⟩
abbrev main_v78 : Ref sig .tc := ⟨.hbm, 91, rfl⟩
abbrev main_cst_5 : Ref sig .tc := ⟨.hbm, 92, rfl⟩
abbrev main_v79 : Ref sig .tc := ⟨.hbm, 93, rfl⟩
abbrev main_v80 : Ref sig .tc := ⟨.hbm, 94, rfl⟩
abbrev main_v81 : Ref sig .tc := ⟨.hbm, 95, rfl⟩
abbrev main_v82 : Ref sig .tc := ⟨.hbm, 96, rfl⟩
abbrev main_v83 : Ref sig .tc := ⟨.hbm, 97, rfl⟩
abbrev main_v84 : Ref sig .tc := ⟨.hbm, 98, rfl⟩
abbrev main_v85 : Ref sig .tc := ⟨.hbm, 99, rfl⟩
abbrev main_cst_6 : Ref sig .tc := ⟨.hbm, 100, rfl⟩
abbrev main_v86 : Ref sig .tc := ⟨.hbm, 101, rfl⟩
abbrev main_v87 : Ref sig .tc := ⟨.hbm, 102, rfl⟩
abbrev main_v88 : Ref sig .tc := ⟨.hbm, 103, rfl⟩
abbrev main_v89 : Ref sig .tc := ⟨.hbm, 104, rfl⟩
abbrev main_v90 : Ref sig .tc := ⟨.hbm, 105, rfl⟩
abbrev main_v91 : Ref sig .tc := ⟨.hbm, 106, rfl⟩
abbrev main_v92 : Ref sig .tc := ⟨.hbm, 107, rfl⟩
abbrev main_v93 : Ref sig .tc := ⟨.hbm, 108, rfl⟩
abbrev main_cst_7 : Ref sig .tc := ⟨.hbm, 109, rfl⟩
abbrev main_v94 : Ref sig .tc := ⟨.hbm, 110, rfl⟩
abbrev main_v95 : Ref sig .tc := ⟨.hbm, 111, rfl⟩
abbrev main_v96 : Ref sig .tc := ⟨.hbm, 112, rfl⟩
abbrev main_cst_8 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_cst_9 : Ref sig .tc := ⟨.hbm, 119, rfl⟩
abbrev main_v102 : Ref sig .tc := ⟨.hbm, 120, rfl⟩
abbrev main_c : Ref sig .tc := ⟨.hbm, 121, rfl⟩
abbrev main_v103_0 : Ref sig .tc := ⟨.hbm, 122, rfl⟩
abbrev main_v103_1 : Ref sig .tc := ⟨.hbm, 123, rfl⟩
abbrev main_v103_2 : Ref sig .tc := ⟨.hbm, 124, rfl⟩
abbrev main_v103_3 : Ref sig .tc := ⟨.hbm, 125, rfl⟩
abbrev main_v103_4 : Ref sig .tc := ⟨.hbm, 126, rfl⟩
abbrev main_v103_5 : Ref sig .tc := ⟨.hbm, 127, rfl⟩
abbrev main_v103_6 : Ref sig .tc := ⟨.hbm, 128, rfl⟩
abbrev main_v103_7 : Ref sig .tc := ⟨.hbm, 129, rfl⟩
abbrev main_v103_8 : Ref sig .tc := ⟨.hbm, 130, rfl⟩
abbrev main_v103_9 : Ref sig .tc := ⟨.hbm, 131, rfl⟩
abbrev main_while0c_c_24 : Ref sig .tc := ⟨.hbm, 132, rfl⟩
abbrev main_while0c_v129 : Ref sig .tc := ⟨.hbm, 133, rfl⟩
abbrev main_while0b_call1_c : Ref sig .tc := ⟨.hbm, 134, rfl⟩
abbrev main_while0b_call1_c_0 : Ref sig .tc := ⟨.hbm, 135, rfl⟩
abbrev main_while0b_call1_c_1 : Ref sig .tc := ⟨.hbm, 136, rfl⟩
abbrev main_while0b_call1_c_2 : Ref sig .tc := ⟨.hbm, 137, rfl⟩
abbrev main_while0b_call1_v0 : Ref sig .tc := ⟨.hbm, 138, rfl⟩
abbrev main_while0b_v129 : Ref sig .tc := ⟨.hbm, 139, rfl⟩
abbrev main_while0b_call2_c : Ref sig .tc := ⟨.hbm, 140, rfl⟩
abbrev main_while0b_call2_c_0 : Ref sig .tc := ⟨.hbm, 141, rfl⟩
abbrev main_while0b_call2_c_1 : Ref sig .tc := ⟨.hbm, 142, rfl⟩
abbrev main_while0b_call2_c_2 : Ref sig .tc := ⟨.hbm, 143, rfl⟩
abbrev main_while0b_call2_v0 : Ref sig .tc := ⟨.hbm, 144, rfl⟩
abbrev main_while0b_v130 : Ref sig .tc := ⟨.hbm, 145, rfl⟩
abbrev main_while0b_call3_c : Ref sig .tc := ⟨.hbm, 146, rfl⟩
abbrev main_while0b_call3_c_0 : Ref sig .tc := ⟨.hbm, 147, rfl⟩
abbrev main_while0b_call3_c_1 : Ref sig .tc := ⟨.hbm, 148, rfl⟩
abbrev main_while0b_call3_c_2 : Ref sig .tc := ⟨.hbm, 149, rfl⟩
abbrev main_while0b_call3_v0 : Ref sig .tc := ⟨.hbm, 150, rfl⟩
abbrev main_while0b_v131 : Ref sig .tc := ⟨.hbm, 151, rfl⟩
abbrev main_while0b_call4_c : Ref sig .tc := ⟨.hbm, 152, rfl⟩
abbrev main_while0b_call4_c_0 : Ref sig .tc := ⟨.hbm, 153, rfl⟩
abbrev main_while0b_call4_c_1 : Ref sig .tc := ⟨.hbm, 154, rfl⟩
abbrev main_while0b_call4_c_2 : Ref sig .tc := ⟨.hbm, 155, rfl⟩
abbrev main_while0b_call4_v0 : Ref sig .tc := ⟨.hbm, 156, rfl⟩
abbrev main_while0b_v132 : Ref sig .tc := ⟨.hbm, 157, rfl⟩
abbrev main_while0b_v133 : Ref sig .tc := ⟨.hbm, 158, rfl⟩
abbrev main_while0b_v134 : Ref sig .tc := ⟨.hbm, 159, rfl⟩
abbrev main_while0b_v135 : Ref sig .tc := ⟨.hbm, 160, rfl⟩
abbrev main_while0b_v136 : Ref sig .tc := ⟨.hbm, 161, rfl⟩
abbrev main_while0b_v137 : Ref sig .tc := ⟨.hbm, 162, rfl⟩
abbrev main_while0b_v138 : Ref sig .tc := ⟨.hbm, 163, rfl⟩
abbrev main_while0b_v139 : Ref sig .tc := ⟨.hbm, 164, rfl⟩
abbrev main_while0b_v140 : Ref sig .tc := ⟨.hbm, 165, rfl⟩
abbrev main_while0b_v141 : Ref sig .tc := ⟨.hbm, 166, rfl⟩
abbrev main_while0b_v142 : Ref sig .tc := ⟨.hbm, 167, rfl⟩
abbrev main_while0b_v143 : Ref sig .tc := ⟨.hbm, 168, rfl⟩
abbrev main_while0b_v144 : Ref sig .tc := ⟨.hbm, 169, rfl⟩
abbrev main_while0b_v145 : Ref sig .tc := ⟨.hbm, 170, rfl⟩
abbrev main_while0b_v146 : Ref sig .tc := ⟨.hbm, 171, rfl⟩
abbrev main_while0b_call5_v0 : Ref sig .tc := ⟨.hbm, 172, rfl⟩
abbrev main_while0b_call5_c : Ref sig .tc := ⟨.hbm, 173, rfl⟩
abbrev main_while0b_call5_c_0 : Ref sig .tc := ⟨.hbm, 174, rfl⟩
abbrev main_while0b_call5_c_1 : Ref sig .tc := ⟨.hbm, 175, rfl⟩
abbrev main_while0b_call5_c_2 : Ref sig .tc := ⟨.hbm, 176, rfl⟩
abbrev main_while0b_v147 : Ref sig .tc := ⟨.hbm, 177, rfl⟩
abbrev main_while0b_c_24 : Ref sig .tc := ⟨.hbm, 178, rfl⟩
abbrev main_while0b_v148 : Ref sig .tc := ⟨.hbm, 179, rfl⟩
abbrev main_v104 : Ref sig .tc := ⟨.hbm, 180, rfl⟩
abbrev main_v105 : Ref sig .tc := ⟨.hbm, 181, rfl⟩
abbrev main_cst_10 : Ref sig .tc := ⟨.hbm, 182, rfl⟩
abbrev main_v106 : Ref sig .tc := ⟨.hbm, 183, rfl⟩
abbrev main_v107 : Ref sig .tc := ⟨.hbm, 184, rfl⟩
abbrev main_cst_11 : Ref sig .tc := ⟨.hbm, 185, rfl⟩
abbrev main_v108 : Ref sig .tc := ⟨.hbm, 186, rfl⟩
abbrev main_v109 : Ref sig .tc := ⟨.hbm, 187, rfl⟩
abbrev main_v110 : Ref sig .tc := ⟨.hbm, 188, rfl⟩
abbrev main_v111 : Ref sig .tc := ⟨.hbm, 189, rfl⟩
abbrev main_v112 : Ref sig .tc := ⟨.hbm, 190, rfl⟩
abbrev main_cst_12 : Ref sig .tc := ⟨.hbm, 191, rfl⟩
abbrev main_v113 : Ref sig .tc := ⟨.hbm, 192, rfl⟩
abbrev main_v114 : Ref sig .tc := ⟨.hbm, 193, rfl⟩
abbrev main_cst_13 : Ref sig .tc := ⟨.hbm, 194, rfl⟩
abbrev main_v115 : Ref sig .tc := ⟨.hbm, 195, rfl⟩
abbrev main_v116 : Ref sig .tc := ⟨.hbm, 196, rfl⟩
abbrev main_v117 : Ref sig .tc := ⟨.hbm, 197, rfl⟩
abbrev main_v118 : Ref sig .tc := ⟨.hbm, 198, rfl⟩
abbrev main_cst_14 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩

abbrev nD : Nat := 1
abbrev τ : Topo := Topo.v7x

variable {F : FTy → Type} [FloatOps F]

abbrev main_while0_count : Scf.Loop 32 := ⟨0#32, 64#32, 1#32⟩
-- ==== RetIn.lean ====
abbrev S4x4096x2048 : Shape := ⟨3, ![4, 4096, 2048]⟩
abbrev S2x2048x11264 : Shape := ⟨3, ![2, 2048, 11264]⟩
abbrev S16384x2048 : Shape := ⟨2, ![16384, 2048]⟩
abbrev S16384x11264 : Shape := ⟨2, ![16384, 11264]⟩
abbrev S2048x2048 : Shape := ⟨2, ![2048, 2048]⟩
abbrev S1x2048x1024 : Shape := ⟨3, ![1, 2048, 1024]⟩
abbrev S2048x1024 : Shape := ⟨2, ![2048, 1024]⟩

abbrev nBuf : Space → Nat
  | .hbm => 5
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S2x2048x11264, .f32⟩
  | .hbm, ⟨2, _⟩ => ⟨S16384x2048, .f32⟩
  | .hbm, ⟨3, _⟩ => ⟨S16384x2048, .bf16⟩
  | .hbm, ⟨4, _⟩ => ⟨S16384x11264, .bf16⟩
  | .local _ .vmem, ⟨0, _⟩ => ⟨S2048x2048, .bf16⟩
  | .local _ .vmem, ⟨1, _⟩ => ⟨S2048x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefRetInIdeal.lean ====
abbrev S4x4096x2048 : Shape := ⟨3, ![4, 4096, 2048]⟩
abbrev S2x2048x11264 : Shape := ⟨3, ![2, 2048, 11264]⟩
abbrev S1x2048x11264 : Shape := ⟨3, ![1, 2048, 11264]⟩
abbrev S2048x11264 : Shape := ⟨2, ![2048, 11264]⟩
abbrev S4x4096x11264 : Shape := ⟨3, ![4, 4096, 11264]⟩
abbrev S16384x11264 : Shape := ⟨2, ![16384, 11264]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048x11264, .f32⟩
  | .hbm, ⟨2, _⟩ => ⟨S1x2048x11264, .f32⟩
  | .hbm, ⟨3, _⟩ => ⟨S2048x11264, .f32⟩
  | .hbm, ⟨4, _⟩ => ⟨S4x4096x11264, .f32⟩
  | .hbm, ⟨5, _⟩ => ⟨S4x4096x11264, .bf16⟩
  | .hbm, ⟨6, _⟩ => ⟨S16384x11264, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== GdnIn.lean ====
abbrev S4x4096x2048 : Shape := ⟨3, ![4, 4096, 2048]⟩
abbrev S2x2048x11312 : Shape := ⟨3, ![2, 2048, 11312]⟩
abbrev S16384x2048 : Shape := ⟨2, ![16384, 2048]⟩
abbrev S2x11312x2048 : Shape := ⟨3, ![2, 11312, 2048]⟩
abbrev S16384x11264 : Shape := ⟨2, ![16384, 11264]⟩
abbrev S2048x2048 : Shape := ⟨2, ![2048, 2048]⟩
abbrev S1x1024x2048 : Shape := ⟨3, ![1, 1024, 2048]⟩
abbrev S2048x1024 : Shape := ⟨2, ![2048, 1024]⟩
abbrev S1024x2048 : Shape := ⟨2, ![1024, 2048]⟩

abbrev nBuf : Space → Nat
  | .hbm => 6
  | .vmem => 7
  | .smem => 0
  | _ => 0

abbrev bufTy : (tb : Table) → Fin (tcTables nBuf tb) → BufTy
  | .hbm, ⟨0, _⟩ => ⟨S4x4096x2048, .f32⟩
  | .hbm, ⟨1, _⟩ => ⟨S2x2048x11312, .f32⟩
  | .hbm, ⟨2, _⟩ => ⟨S16384x2048, .f32⟩
  | .hbm, ⟨3, _⟩ => ⟨S16384x2048, .bf16⟩
  | .hbm, ⟨4, _⟩ => ⟨S2x11312x2048, .f32⟩
  | .hbm, ⟨5, _⟩ => ⟨S16384x11264, .bf16⟩
  | .local _ .vmem, ⟨0, _⟩ => ⟨S2048x2048, .bf16⟩
  | .local _ .vmem, ⟨1, _⟩ => ⟨S2048x2048, .bf16⟩
  | .local _ .vmem, ⟨2, _⟩ => ⟨S1x1024x2048, .f32⟩
  | .local _ .vmem, ⟨3, _⟩ => ⟨S1x1024x2048, .f32⟩
  | .local _ .vmem, ⟨4, _⟩ => ⟨S2048x1024, .bf16⟩
  | .local _ .vmem, ⟨5, _⟩ => ⟨S2048x1024, .bf16⟩
  | .local _ .vmem, ⟨6, _⟩ => ⟨S2048x1024, .bf16⟩
  | _, _ => ⟨S4x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![11, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2048x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x1024x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefGdnInIdeal.lean ====
abbrev S4x4096x2048 : Shape := ⟨3, ![4, 4096, 2048]⟩
abbrev S2x2048x11312 : Shape := ⟨3, ![2, 2048, 11312]⟩
abbrev S1x2048x11312 : Shape := ⟨3, ![1, 2048, 11312]⟩
abbrev S2048x11312 : Shape := ⟨2, ![2048, 11312]⟩
abbrev S4x4096x11312 : Shape := ⟨3, ![4, 4096, 11312]⟩
abbrev S4x4096x11264 : Shape := ⟨3, ![4, 4096, 11264]⟩
abbrev S16384x11264 : Shape := ⟨2, ![16384, 11264]⟩

abbrev nBuf : Space → Nat
  | .hbm => 8
  | .vmem => 0
  | .smem => 0
  | _ => 0

abbrev bufTy : (tb : Table) → Fin (tcTables nBuf tb) → BufTy
  | .hbm, ⟨0, _⟩ => ⟨S4x4096x2048, .f32⟩
  | .hbm, ⟨1, _⟩ => ⟨S2x2048x11312, .f32⟩
  | .hbm, ⟨2, _⟩ => ⟨S1x2048x11312, .f32⟩
  | .hbm, ⟨3, _⟩ => ⟨S2048x11312, .f32⟩
  | .hbm, ⟨4, _⟩ => ⟨S4x4096x11312, .f32⟩
  | .hbm, ⟨5, _⟩ => ⟨S4x4096x11264, .f32⟩
  | .hbm, ⟨6, _⟩ => ⟨S4x4096x11264, .bf16⟩
  | .hbm, ⟨7, _⟩ => ⟨S16384x11264, .bf16⟩
  | _, _ => ⟨S4x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== MemKv.lean ====
abbrev S4x256x2048 : Shape := ⟨3, ![4, 256, 2048]⟩
abbrev S4x2048x2048 : Shape := ⟨3, ![4, 2048, 2048]⟩
abbrev S1024x2048 : Shape := ⟨2, ![1024, 2048]⟩
abbrev S1024x8192 : Shape := ⟨2, ![1024, 8192]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 5
  | .vmem => 6
  | .smem => 0
  | _ => 0

abbrev bufTy : (tb : Table) → Fin (tcTables nBuf tb) → BufTy
  | .hbm, ⟨0, _⟩ => ⟨S4x256x2048, .f32⟩
  | .hbm, ⟨1, _⟩ => ⟨S4x2048x2048, .f32⟩
  | .hbm, ⟨2, _⟩ => ⟨S1024x2048, .f32⟩
  | .hbm, ⟨3, _⟩ => ⟨S1024x2048, .bf16⟩
  | .hbm, ⟨4, _⟩ => ⟨S1024x8192, .bf16⟩
  | .local _ .vmem, ⟨0, _⟩ => ⟨S1024x2048, .bf16⟩
  | .local _ .vmem, ⟨1, _⟩ => ⟨S1x2048x1024, .f32⟩
  | .local _ .vmem, ⟨2, _⟩ => ⟨S1x2048x1024, .f32⟩
  | .local _ .vmem, ⟨3, _⟩ => ⟨S1024x1024, .bf16⟩
  | .local _ .vmem, ⟨4, _⟩ => ⟨S1024x1024, .bf16⟩
  | .local _ .vmem, ⟨5, _⟩ => ⟨S2048x1024, .bf16⟩
  | _, _ => ⟨S4x256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![8, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c2_i32_10 : BitVec 32 := 2#32
  let v27 : BitVec 32 := Scalar.divsi arg0 c2_i32_10
  let c0_i32_11 : BitVec 32 := 0#32
  let v28 : BitVec 1 := Scalar.cmpi .sgt arg0 c0_i32_11
  let v29 : BitVec 32 := Scalar.extui v28
  let c0_i32_12 : BitVec 32 := 0#32
  let v30 : BitVec 1 := Scalar.cmpi .slt arg0 c0_i32_12
  let v31 : BitVec 32 := Scalar.extui v30
  let v32 : BitVec 32 := Scalar.subi v29 v31
  let c0_i32_13 : BitVec 32 := 0#32
  let v33 : BitVec 1 := Scalar.cmpi .sgt c2_i32_10 c0_i32_13
  let v34 : BitVec 32 := Scalar.extui v33
  let c0_i32_14 : BitVec 32 := 0#32
  let v35 : BitVec 1 := Scalar.cmpi .slt c2_i32_10 c0_i32_14
  let v36 : BitVec 32 := Scalar.extui v35
  let v37 : BitVec 32 := Scalar.subi v34 v36
  let v38 : BitVec 1 := Scalar.cmpi .ne v32 v37
  let v39 : BitVec 32 := Scalar.remsi arg0 c2_i32_10
  let c0_i32_15 : BitVec 32 := 0#32
  let v40 : BitVec 1 := Scalar.cmpi .ne v39 c0_i32_15
  let v41 : BitVec 1 := Scalar.andi v38 v40
  let c1_i32_16 : BitVec 32 := 1#32
  let v42 : BitVec 32 := Scalar.subi v27 c1_i32_16
  let v43 : BitVec 32 := Scalar.select v41 v42 v27
  let c2_i32_17 : BitVec 32 := 2#32
  let c0_i32_18 : BitVec 32 := 0#32
  let v44 : BitVec 1 := Scalar.cmpi .eq c2_i32_17 c0_i32_18
  let c1_i32_19 : BitVec 32 := 1#32
  let v45 : BitVec 32 := Scalar.select v44 c1_i32_19 c2_i32_17
  let v46 : BitVec 32 := Scalar.remsi arg0 v45
  let c0_i32_20 : BitVec 32 := 0#32
  let v47 : BitVec 1 := Scalar.cmpi .ne v46 c0_i32_20
  let c0_i32_21 : BitVec 32 := 0#32
  let v48 : BitVec 1 := Scalar.cmpi .slt v46 c0_i32_21
  let c0_i32_22 : BitVec 32 := 0#32
  let v49 : BitVec 1 := Scalar.cmpi .slt v45 c0_i32_22
  let v50 : BitVec 1 := Scalar.xori v48 v49
  let v51 : BitVec 1 := Scalar.andi v50 v47
  let v52 : BitVec 32 := Scalar.addi v46 v45
  let v53 : BitVec 32 := Scalar.select v51 v52 v46
  let c0_i32_23 : BitVec 32 := 0#32
  let c0_i32_24 : BitVec 32 := 0#32
  ![v16.toNat, c0_i32_23.toNat, v53.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== RefMemKvIdeal.lean ====
abbrev S4x256x2048 : Shape := ⟨3, ![4, 256, 2048]⟩
abbrev S4x2048x2048 : Shape := ⟨3, ![4, 2048, 2048]⟩
abbrev S1x2048x2048 : Shape := ⟨3, ![1, 2048, 2048]⟩
abbrev S2048x2048 : Shape := ⟨2, ![2048, 2048]⟩
abbrev S4x256x8192 : Shape := ⟨3, ![4, 256, 8192]⟩
abbrev S1024x8192 : Shape := ⟨2, ![1024, 8192]⟩

abbrev nBuf : Space → Nat
  | .hbm => 17
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S4x2048x2048, .f32⟩
  | .hbm, ⟨2, _⟩ => ⟨S1x2048x2048, .f32⟩
  | .hbm, ⟨3, _⟩ => ⟨S2048x2048, .f32⟩
  | .hbm, ⟨4, _⟩ => ⟨S4x256x2048, .f32⟩
  | .hbm, ⟨5, _⟩ => ⟨S1x2048x2048, .f32⟩
  | .hbm, ⟨6, _⟩ => ⟨S2048x2048, .f32⟩
  | .hbm, ⟨7, _⟩ => ⟨S4x256x2048, .f32⟩
  | .hbm, ⟨8, _⟩ => ⟨S1x2048x2048, .f32⟩
  | .hbm, ⟨9, _⟩ => ⟨S2048x2048, .f32⟩
  | .hbm, ⟨10, _⟩ => ⟨S4x256x2048, .f32⟩
  | .hbm, ⟨11, _⟩ => ⟨S1x2048x2048, .f32⟩
  | .hbm, ⟨12, _⟩ => ⟨S2048x2048, .f32⟩
  | .hbm, ⟨13, _⟩ => ⟨S4x256x2048, .f32⟩
  | .hbm, ⟨14, _⟩ => ⟨S4x256x8192, .f32⟩
  | .hbm, ⟨15, _⟩ => ⟨S4x256x8192, .bf16⟩
  | .hbm, ⟨16, _⟩ => ⟨S1024x8192, .bf16⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩

abbrev nD : Nat := 1
abbrev τ : Topo := Topo.v7x

variable {F : FTy → Type} [FloatOps F]
-- ==== GateOut.lean ====
abbrev S4x4096x3072 : Shape := ⟨3, ![4, 4096, 3072]⟩
abbrev S4x4096x11264 : Shape := ⟨3, ![4, 4096, 11264]⟩
abbrev S4x256x8192 : Shape := ⟨3, ![4, 256, 8192]⟩
abbrev S4x4096x2048 : Shape := ⟨3, ![4, 4096, 2048]⟩
abbrev S4x2048 : Shape := ⟨2, ![4, 2048]⟩
abbrev S16384x3072 : Shape := ⟨2, ![16384, 3072]⟩
abbrev S16384x11264 : Shape := ⟨2, ![16384, 11264]⟩
abbrev S16384x2048 : Shape := ⟨2, ![16384, 2048]⟩
abbrev S1x2048 : Shape := ⟨2, ![1, 2048]⟩
abbrev S2048 : Shape := ⟨1, ![2048]⟩
abbrev S256x3072 : Shape := ⟨2, ![256, 3072]⟩
abbrev S256x1024 : Shape := ⟨2, ![256, 1024]⟩
abbrev S1x256x2048 : Shape := ⟨3, ![1, 256, 2048]⟩
abbrev S1x4096x2048 : Shape := ⟨3, ![1, 4096, 2048]⟩
abbrev S256x2048 : Shape := ⟨2, ![256, 2048]⟩
abbrev S1x1024x2048 : Shape := ⟨3, ![1, 1024, 2048]⟩
abbrev S1024x2048 : Shape := ⟨2, ![1024, 2048]⟩
abbrev S64x2048 : Shape := ⟨2, ![64, 2048]⟩
abbrev S64 : Shape := ⟨1, ![64]⟩
abbrev S64x1 : Shape := ⟨2, ![64, 1]⟩
abbrev S1x256x256 : Shape := ⟨3, ![1, 256, 256]⟩
abbrev S256x256 : Shape := ⟨2, ![256, 256]⟩
abbrev S256 : Shape := ⟨1, ![256]⟩
abbrev S256x1 : Shape := ⟨2, ![256, 1]⟩

abbrev nBuf : Space → Nat
  | .hbm => 19
  | .vmem => 24
  | .smem => 0
  | _ => 0

abbrev bufTy : (tb : Table) → Fin (tcTables nBuf tb) → BufTy
  | .hbm, ⟨0, _⟩ => ⟨S4x4096x3072, .bf16⟩
  | .hbm, ⟨1, _⟩ => ⟨S4x4096x11264, .bf16⟩
  | .hbm, ⟨2, _⟩ => ⟨S4x256x8192, .bf16⟩
  | .hbm, ⟨3, _⟩ => ⟨S4x4096x2048, .f32⟩
  | .hbm, ⟨4, _⟩ => ⟨S4x4096x2048, .f32⟩
  | .hbm, ⟨5, _⟩ => ⟨S4x2048, .f32⟩
  | .hbm, ⟨6, _⟩ => ⟨S4x2048, .f32⟩
  | .hbm, ⟨7, _⟩ => ⟨S16384x3072, .bf16⟩
  | .hbm, ⟨8, _⟩ => ⟨S16384x11264, .bf16⟩
  | .hbm, ⟨9, _⟩ => ⟨S4x4096x2048, .bf16⟩
  | .hbm, ⟨10, _⟩ => ⟨S16384x2048, .f32⟩
  | .hbm, ⟨11, _⟩ => ⟨S1x2048, .f32⟩
  | .hbm, ⟨12, _⟩ => ⟨S2048, .f32⟩
  | .hbm, ⟨13, _⟩ => ⟨S1x2048, .f32⟩
  | .hbm, ⟨14, _⟩ => ⟨S2048, .f32⟩
  | .hbm, ⟨15, _⟩ => ⟨S1x2048, .f32⟩
  | .hbm, ⟨16, _⟩ => ⟨S1x2048, .f32⟩
  | .hbm, ⟨17, _⟩ => ⟨S16384x2048, .f32⟩
  | .hbm, ⟨18, _⟩ => ⟨S16384x2048, .bf16⟩
  | .local _ .vmem, ⟨0, _⟩ => ⟨S256x3072, .bf16⟩
  | .local _ .vmem, ⟨1, _⟩ => ⟨S256x3072, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S256x1024, .bf16⟩
  | .local _ .vmem, ⟨11, _⟩ => ⟨S256x1024, .bf16⟩
  | .local _ .vmem, ⟨12, _⟩ => ⟨S1x256x2048, .bf16⟩
  | .local _ .vmem, ⟨13, _⟩ => ⟨S1x256x2048, .bf16⟩
  | .local _ .vmem, ⟨14, _⟩ => ⟨S1x4096x2048, .bf16⟩
  | .local _ .vmem, ⟨15, _⟩ => ⟨S256x2048, .f32⟩
  | .local _ .vmem, ⟨16, _⟩ => ⟨S256x2048, .f32⟩
  | .local _ .vmem, ⟨17, _⟩ => ⟨S1x2048, .f32⟩
  | .local _ .vmem, ⟨18, _⟩ => ⟨S1x2048, .f32⟩
  | .local _ .vmem, ⟨19, _⟩ => ⟨S256x2048, .f32⟩
  | .local _ .vmem, ⟨20, _⟩ => ⟨S256x2048, .f32⟩
  | .local _ .vmem, ⟨21, _⟩ => ⟨S256x2048, .bf16⟩
  | .local _ .vmem, ⟨22, _⟩ => ⟨S256x2048, .bf16⟩
  | .local _ .vmem, ⟨23, _⟩ => ⟨S256x2048, .f32⟩
  | _, _ => ⟨S4x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg10_0 : Ref sig .tc := ⟨.vmem, 18, rfl⟩
abbrev cc0_stg11_0 : Ref sig .tc := ⟨.vmem, 19, rfl⟩
abbrev cc0_stg11_1 : Ref sig .tc := ⟨.vmem, 20, rfl⟩
abbrev cc0_stg12_0 : Ref sig .tc := ⟨.vmem, 21, rfl⟩
abbrev cc0_stg12_1 : Ref sig .tc := ⟨.vmem, 22, rfl⟩
abbrev cc0_scratch0 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem10_0 : DmaSem sig := 18
abbrev cc0_sem11_0 : DmaSem sig := 19
abbrev cc0_sem11_1 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![65], ![false]⟩

def cc0_transform_0 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c6_i32 : BitVec 32 := 6#32
  let c0_i32 : BitVec 32 := 0#32
  ![v0.toNat, c6_i32.toNat]

def cc0_transform_2 (i : grid0.Coords) : Fin 2 → Nat :=
  let arg0 : BitVec 32 := BitVec.ofNat 32 (i 0).val
  let c63_i32 : BitVec 32 := 63#32
  let v0 : BitVec 32 := Scalar.minsi arg0 c63_i32
  let c7_i32 : BitVec 32 := 7#32
  let c0_i32 : BitVec 32 := 0#32
  ![v0.toNat, c7_i32.toNat]

def cc0_transform_3 (i : grid0.Coords) : Fin 2 → Nat :=
  let arg0 : BitVec 32 := BitVec.ofNat 32 (i 0).val
  let c63_i32 : BitVec 32 := 63#32
  let v0 : BitVec 32 := Scalar.minsi arg0 c63_i32
  let c8_i32 : BitVec 32 := 8#32
  let c0_i32 : BitVec 32 := 0#32
  ![v0.toNat, c8_i32.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c9_i32 : BitVec 32 := 9#32
  let c0_i32 : BitVec 32 := 0#32
  ![v0.toNat, c9_i32.toNat]

def cc0_transform_5 (i : grid0.Coords) : Fin 2 → Nat :=
  let arg0 : BitVec 32 := BitVec.ofNat 32 (i 0).val
  let c63_i32 : BitVec 32 := 63#32
  let v0 : BitVec 32 := Scalar.minsi arg0 c63_i32
  let c10_i32 : BitVec 32 := 10#32
  let c0_i32 : BitVec 32 := 0#32
  ![v0.toNat, c10_i32.toNat]

def cc0_transform_6 (i : grid0.Coords) : Fin 3 → Nat :=
  let arg0 : BitVec 32 := BitVec.ofNat 32 (i 0).val
  let c63_i32 : BitVec 32 := 63#32
  let v0 : BitVec 32 := Scalar.minsi arg0 c63_i32
  let c256_i32 : BitVec 32 := 256#32
  let v1 : BitVec 32 := Scalar.muli v0 c256_i32
  let c4096_i32 : BitVec 32 := 4096#32
  let v2 : BitVec 32 := Scalar.divsi v1 c4096_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c4096_i32 c0_i32_1
  let v9 : BitVec 32 := Scalar.extui v8
  let c0_i32_2 : BitVec 32 := 0#32
  let v10 : BitVec 1 := Scalar.cmpi .slt c4096_i32 c0_i32_2
  let v11 : BitVec 32 := Scalar.extui v10
  let v12 : BitVec 32 := Scalar.subi v9 v11
  let v13 : BitVec 1 := Scalar.cmpi .ne v7 v12
  let v14 : BitVec 32 := Scalar.remsi v1 c4096_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c0_i32_4 : BitVec 32 := 0#32
  let c3_i32 : BitVec 32 := 3#32
  let c0_i32_5 : BitVec 32 := 0#32
  ![v18.toNat, c0_i32_4.toNat, c3_i32.toNat]

def cc0_transform_7 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_12 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4096x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S256x2048 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== RefGateOutIdeal.lean ====
abbrev S4x4096x3072 : Shape := ⟨3, ![4, 4096, 3072]⟩
abbrev S4x4096x11264 : Shape := ⟨3, ![4, 4096, 11264]⟩
abbrev S4x256x8192 : Shape := ⟨3, ![4, 256, 8192]⟩
abbrev S4x4096x2048 : Shape := ⟨3, ![4, 4096, 2048]⟩
abbrev S4x2048 : Shape := ⟨2, ![4, 2048]⟩
abbrev S4x4096x1024 : Shape := ⟨3, ![4, 4096, 1024]⟩
abbrev S4x4096x4096 : Shape := ⟨3, ![4, 4096, 4096]⟩
abbrev S4x256x2048 : Shape := ⟨3, ![4, 256, 2048]⟩
abbrev S4x256x1024 : Shape := ⟨3, ![4, 256, 1024]⟩
abbrev S4x256x4x256 : Shape := ⟨4, ![4, 256, 4, 256]⟩
abbrev S4x4096x4x256 : Shape := ⟨4, ![4, 4096, 4, 256]⟩
abbrev S4x4x4096x256 : Shape := ⟨4, ![4, 4, 4096, 256]⟩
abbrev S_ : Shape := ⟨0, ![]⟩
abbrev S4x4x4096 : Shape := ⟨3, ![4, 4, 4096]⟩
abbrev S4x4x4096x1 : Shape := ⟨4, ![4, 4, 4096, 1]⟩
abbrev S4x4x256x4096 : Shape := ⟨4, ![4, 4, 256, 4096]⟩
abbrev S1x4096x2048 : Shape := ⟨3, ![1, 4096, 2048]⟩
abbrev S4096x2048 : Shape := ⟨2, ![4096, 2048]⟩
abbrev S1x2048 : Shape := ⟨2, ![1, 2048]⟩
abbrev S2048 : Shape := ⟨1, ![2048]⟩
abbrev S4x4096 : Shape := ⟨2, ![4, 4096]⟩
abbrev S4x4096x1 : Shape := ⟨3, ![4, 4096, 1]⟩
abbrev S1x1x2048 : Shape := ⟨3, ![1, 1, 2048]⟩
abbrev S16384x2048 : Shape := ⟨2, ![16384, 2048]⟩

abbrev nBuf : Space → Nat
  | .hbm => 92
  | .vmem => 0
  | .smem => 0
  | _ => 0

abbrev bufTy : (tb : Table) → Fin (tcTables nBuf tb) → BufTy
  | .hbm, ⟨0, _⟩ => ⟨S4x4096x3072, .bf16⟩
  | .hbm, ⟨1, _⟩ => ⟨S4x4096x11264, .bf16⟩
  | .hbm, ⟨2, _⟩ => ⟨S4x256x8192, .bf16⟩
  | .hbm, ⟨3, _⟩ => ⟨S4x4096x2048, .f32⟩
  | .hbm, ⟨4, _⟩ => ⟨S4x4096x2048, .f32⟩
  | .hbm, ⟨5, _⟩ => ⟨S4x2048, .f32⟩
  | .hbm, ⟨6, _⟩ => ⟨S4x2048, .f32⟩
  | .hbm, ⟨7, _⟩ => ⟨S4x4096x3072, .f32⟩
  | .hbm, ⟨8, _⟩ => ⟨S4x4096x11264, .f32⟩
  | .hbm, ⟨9, _⟩ => ⟨S4x256x8192, .f32⟩
  | .hbm, ⟨10, _⟩ => ⟨S4x4096x1024, .f32⟩
  | .hbm, ⟨11, _⟩ => ⟨S4x4096x4096, .f32⟩
  | .hbm, ⟨12, _⟩ => ⟨S4x256x2048, .f32⟩
  | .hbm, ⟨13, _⟩ => ⟨S4x256x1024, .f32⟩
  | .hbm, ⟨14, _⟩ => ⟨S4x256x4x256, .f32⟩
  | .hbm, ⟨15, _⟩ => ⟨S4x256x1024, .f32⟩
  | .hbm, ⟨16, _⟩ => ⟨S4x256x4x256, .f32⟩
  | .hbm, ⟨17, _⟩ => ⟨S4x4096x4x256, .f32⟩
  | .hbm, ⟨18, _⟩ => ⟨S4x4x4096x256, .f32⟩
  | .hbm, ⟨19, _⟩ => ⟨S_, .f32⟩
  | .hbm, ⟨20, _⟩ => ⟨S4x4x4096x256, .f32⟩
  | .hbm, ⟨21, _⟩ => ⟨S4x4x4096x256, .f32⟩
  | .hbm, ⟨22, _⟩ => ⟨S_, .f32⟩
  | .hbm, ⟨23, _⟩ => ⟨S4x4x4096, .f32⟩
  | .hbm, ⟨24, _⟩ => ⟨S_, .f32⟩
  | .hbm, ⟨25, _⟩ => ⟨S4x4x4096, .f32⟩
  | .hbm, ⟨26, _⟩ => ⟨S4x4x4096, .f32⟩
  | .hbm, ⟨27, _⟩ => ⟨S4x4x4096x1, .f32⟩
  | .hbm, ⟨28, _⟩ => ⟨S4x4x4096x256, .f32⟩
  | .hbm, ⟨29, _⟩ => ⟨S4x4x4096x256, .f32⟩
  | .hbm, ⟨30, _⟩ => ⟨S4x4x4096x256, .f32⟩
  | .hbm, ⟨31, _⟩ => ⟨S_, .f32⟩
  | .hbm, ⟨32, _⟩ => ⟨S4x4x4096, .f32⟩
  | .hbm, ⟨33, _⟩ => ⟨S4x4x4096x1, .f32⟩
  | .hbm, ⟨34, _⟩ => ⟨S4x4x4096x256, .f32⟩
  | .hbm, ⟨35, _⟩ => ⟨S4x4x4096x256, .f32⟩
  | .hbm, ⟨36, _⟩ => ⟨S4x4x256x4096, .f32⟩
  | .hbm, ⟨37, _⟩ => ⟨S4x4096x4x256, .f32⟩
  | .hbm, ⟨38, _⟩ => ⟨S4x4096x1024, .f32⟩
  | .hbm, ⟨39, _⟩ => ⟨S4x4096x4096, .f32⟩
  | .hbm, ⟨40, _⟩ => ⟨S4x4096x4096, .f32⟩
  | .hbm, ⟨41, _⟩ => ⟨S4x4096x4096, .f32⟩
  | .hbm, ⟨42, _⟩ => ⟨S_, .f32⟩
  | .hbm, ⟨43, _⟩ => ⟨S4x4096x4096, .f32⟩
  | .hbm, ⟨44, _⟩ => ⟨S4x4096x4096, .f32⟩
  | .hbm, ⟨45, _⟩ => ⟨S_, .f32⟩
  | .hbm, ⟨46, _⟩ => ⟨S4x4096x4096, .f32⟩
  | .hbm, ⟨47, _⟩ => ⟨S4x4096x4096, .f32⟩
  | .hbm, ⟨48, _⟩ => ⟨S4x4096x4096, .f32⟩
  | .hbm, ⟨49, _⟩ => ⟨S4x4096x4096, .f32⟩
  | .hbm, ⟨50, _⟩ => ⟨S1x4096x2048, .f32⟩
  | .hbm, ⟨51, _⟩ => ⟨S4096x2048, .f32⟩
  | .hbm, ⟨52, _⟩ => ⟨S4x4096x2048, .f32⟩
  | .hbm, ⟨53, _⟩ => ⟨S_, .f32⟩
  | .hbm, ⟨54, _⟩ => ⟨S4x4096x2048, .f32⟩
  | .hbm, ⟨55, _⟩ => ⟨S4x4096x2048, .f32⟩
  | .hbm, ⟨56, _⟩ => ⟨S4x4096x2048, .f32⟩
  | .hbm, ⟨57, _⟩ => ⟨S1x2048, .f32⟩
  | .hbm, ⟨58, _⟩ => ⟨S2048, .f32⟩
  | .hbm, ⟨59, _⟩ => ⟨S1x2048, .f32⟩
  | .hbm, ⟨60, _⟩ => ⟨S2048, .f32⟩
  | .hbm, ⟨61, _⟩ => ⟨S_, .f32⟩
  | .hbm, ⟨62, _⟩ => ⟨S4x4096, .f32⟩
  | .hbm, ⟨63, _⟩ => ⟨S4x4096x1, .f32⟩
  | .hbm, ⟨64, _⟩ => ⟨S_, .f32⟩
  | .hbm, ⟨65, _⟩ => ⟨S4x4096x1, .f32⟩
  | .hbm, ⟨66, _⟩ => ⟨S4x4096x1, .f32⟩
  | .hbm, ⟨67, _⟩ => ⟨S4x4096x2048, .f32⟩
  | .hbm, ⟨68, _⟩ => ⟨S4x4096x2048, .f32⟩
  | .hbm, ⟨69, _⟩ => ⟨S4x4096x2048, .f32⟩
  | .hbm, ⟨70, _⟩ => ⟨S_, .f32⟩
  | .hbm, ⟨71, _⟩ => ⟨S4x4096, .f32⟩
  | .hbm, ⟨72, _⟩ => ⟨S4x4096x1, .f32⟩
  | .hbm, ⟨73, _⟩ => ⟨S_, .f32⟩
  | .hbm, ⟨74, _⟩ => ⟨S4x4096x1, .f32⟩
  | .hbm, ⟨75, _⟩ => ⟨S4x4096x1, .f32⟩
  | .hbm, ⟨76, _⟩ => ⟨S4x4096x2048, .f32⟩
  | .hbm, ⟨77, _⟩ => ⟨S4x4096x2048, .f32⟩
  | .hbm, ⟨78, _⟩ => ⟨S_, .f32⟩
  | .hbm, ⟨79, _⟩ => ⟨S4x4096x1, .f32⟩
  | .hbm, ⟨80, _⟩ => ⟨S4x4096x1, .f32⟩
  | .hbm, ⟨81, _⟩ => ⟨S4x4096x1, .f32⟩
  | .hbm, ⟨82, _⟩ => ⟨S4x4096x2048, .f32⟩
  | .hbm, ⟨83, _⟩ => ⟨S4x4096x2048, .f32⟩
  | .hbm, ⟨84, _⟩ => ⟨S1x1x2048, .f32⟩
  | .hbm, ⟨85, _⟩ => ⟨S4x4096x2048, .f32⟩
  | .hbm, ⟨86, _⟩ => ⟨S4x4096x2048, .f32⟩
  | .hbm, ⟨87, _⟩ => ⟨S1x1x2048, .f32⟩
  | .hbm, ⟨88, _⟩ => ⟨S4x4096x2048, .f32⟩
  | .hbm, ⟨89, _⟩ => ⟨S4x4096x2048, .f32⟩
  | .hbm, ⟨90, _⟩ => ⟨S16384x2048, .f32⟩
  | .hbm, ⟨91, _⟩ => ⟨S16384x2048, .bf16⟩
  | _, _ => ⟨S4x4096x3072, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst : Ref sig .tc := ⟨.hbm, 19, rfl⟩
abbrev main_v12 : Ref sig .tc := ⟨.hbm, 20, rfl⟩
abbrev main_v13 : Ref sig .tc := ⟨.hbm, 21, rfl⟩
abbrev main_cst_0 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_2 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_call0_v0 : Ref sig .tc := ⟨.hbm, 40, rfl⟩
abbrev main_call0_v1 : Ref sig .tc := ⟨.hbm, 41, rfl⟩
abbrev main_call0_cst : Ref sig .tc := ⟨.hbm, 42, rfl⟩
abbrev main_call0_v2 : Ref sig .tc := ⟨.hbm, 43, rfl⟩
abbrev main_call0_v3 : Ref sig .tc := ⟨.hbm, 44, rfl⟩
abbrev main_call0_cst_0 : Ref sig .tc := ⟨.hbm, 45, rfl⟩
abbrev main_call0_v4 : Ref sig .tc := ⟨.hbm, 46, rfl⟩
abbrev main_call0_v5 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_cst_3 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_4 : Ref sig .tc := ⟨.hbm, 61, rfl⟩
abbrev main_v41 : Ref sig .tc := ⟨.hbm, 62, rfl⟩
abbrev main_v42 : Ref sig .tc := ⟨.hbm, 63, rfl⟩
abbrev main_cst_5 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_cst_6 : Ref sig .tc := ⟨.hbm, 70, rfl⟩
abbrev main_v48 : Ref sig .tc := ⟨.hbm, 71, rfl⟩
abbrev main_v49 : Ref sig .tc := ⟨.hbm, 72, rfl⟩
abbrev main_cst_7 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_cst_8 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]
-- ==== Proof.KBlock.lean ====
/- One grid point of the retention kernel: a point treats four heads of one chunk of 512 rows. What it leaves in the output
   block, in the running state and in the table of decays is, head by head, ONE function of that head's operands. -/
module

public import proofs.«01_k».proof.Proof.Gen.KernelIdeal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Proof.KBlock

open Idealize.ShloMosaic Idealize.ShloMosaic.TcCoe Idealize.SL.Sem
open Cert.KernelIdeal Cert.KernelIdeal.Gen

/-! ## The functions of one head -/

/-- The decays between the rows of a chunk. -/
def headDec (lg : Elt Ideal .f32) : Vec Ideal S1x512x512 .f32 := k0_pay7 k0_pay3 lg

/-- A head's retained values before the norm: within the chunk, and from the state. -/
def headNum (x4 x5 : Vec Ideal S1x512x128 .f32) (lg : Elt Ideal .f32) (qx kx : Vec Ideal S1x512x128 .bf16)
    (vx : Vec Ideal S1x512x256 .bf16) (dec : Vec Ideal S1x512x512 .f32) (st : Vec Ideal S1x128x256 .f32) :
    FVec Ideal S512x256 .f32 :=
  k0_pay54 (k0_pay29 (k0_pay9 x4) (k0_pay10 x5) k0_pay11 lg qx)
    (k0_pay41 (k0_pay40 (k0_pay27 (k0_pay9 x4) (k0_pay10 x5) qx) (k0_pay28 (k0_pay9 x4) (k0_pay10 x5) kx)) dec) vx st

/-- The state a head leaves. -/
def headState (x4 x5 : Vec Ideal S1x512x128 .f32) (lg : Elt Ideal .f32) (kx : Vec Ideal S1x512x128 .bf16)
    (vx : Vec Ideal S1x512x256 .bf16) (st : Vec Ideal S1x128x256 .f32) : FVec Ideal S1x128x256 .f32 :=
  k0_pay55 lg (k0_pay30 (k0_pay9 x4) (k0_pay10 x5) k0_pay11 lg kx) vx st

/-! ## Four tiles read back -/

/-- The columns of head `j`. -/
theorem mem_tile (k : ℕ) (i) (j : Fin 4) (hj : 256 * j.val = k) (r : Fin 512) (w : Fin 256) :
    ix3 (0 : Fin 1) r (⟨256 * j.val + w.val, by omega⟩ : Fin 1024) ∈
      (Rect.unit (s := S1x512x1024) ![0, 0, k] ![1, 512, 256] i).set := by
  refine Rect.mem_set_unit.mpr fun e => ?_
  match e with
  | ⟨0, _⟩ => exact ⟨le_refl 0, Nat.one_pos⟩
  | ⟨1, _⟩ => show 0 ≤ r.val ∧ r.val < 0 + 512; omega
  | ⟨2, _⟩ => show k ≤ 256 * j.val + w.val ∧ 256 * j.val + w.val < k + 256; omega

/-- What a column tile holds at an index of head `j`. -/
theorem tile_at (k : ℕ) (p : S1x512x256.Idx → Elt Ideal .bf16) (v : Elt Ideal .bf16) (j : Fin 4) (r : Fin 512) (w : Fin 256)
    (h : j.val = k → p (ix3 0 r w) = v) :
    View.TileAt (Val := Elt Ideal) (e := .bf16) (S := S1x512x1024)
      (ix3 (0 : Fin 1) r (⟨256 * j.val + w.val, by omega⟩ : Fin 1024)) ![0, 0, 256 * k] ![1, 512, 256] p v := by
  intro (x : S1x512x256.Idx) hx
  have h1 : r.val = 0 + (x 1).val := hx 1
  have h2 : 256 * j.val + w.val = 256 * k + (x 2).val := hx 2
  have hb : (x 0).val < 1 := (x 0).isLt
  have hc : (x 2).val < 256 := (x 2).isLt
  have hx' : x = ix3 (0 : Fin 1) r w := by
    rw [eq_ix3 x]
    exact congr (congrArg₂ (fun u v => ix3 u v) (Fin.ext (show (x 0).val = 0 by omega)) (Fin.ext (by omega)))
      (Fin.ext (by omega))
  rw [hx']
  exact h (by omega)

/-- Four column tiles of the output block. -/
theorem canon_out (p0 p1 p2 p3 : S1x512x256.Idx → Elt Ideal .bf16) (i0 i1 i2 i3) (j : Fin 4) (r : Fin 512) (w : Fin 256) :
    View.canon (Val := Elt Ideal) (s := S1x512x1024) (e := .bf16)
      [⟨Rect.unit ![0, 0, 768] ![1, 512, 256] i3, p3⟩, ⟨Rect.unit ![0, 0, 512] ![1, 512, 256] i2, p2⟩,
        ⟨Rect.unit ![0, 0, 256] ![1, 512, 256] i1, p1⟩, ⟨Rect.unit ![0, 0, 0] ![1, 512, 256] i0, p0⟩]
      (ix3 (0 : Fin 1) r (⟨256 * j.val + w.val, by omega⟩ : Fin 1024)) = (![p0, p1, p2, p3] : Fin 4 → _) j (ix3 0 r w) := by
  refine View.canon_eq_of_allAt _ _ _ ?_ ?_
  · fin_cases j
    · exact ⟨⟨Rect.unit ![0, 0, 0] ![1, 512, 256] i0, p0⟩, by simp, mem_tile 0 i0 0 rfl r w⟩
    · exact ⟨⟨Rect.unit ![0, 0, 256] ![1, 512, 256] i1, p1⟩, by simp, mem_tile 256 i1 1 rfl r w⟩
    · exact ⟨⟨Rect.unit ![0, 0, 512] ![1, 512, 256] i2, p2⟩, by simp, mem_tile 512 i2 2 rfl r w⟩
    · exact ⟨⟨Rect.unit ![0, 0, 768] ![1, 512, 256] i3, p3⟩, by simp, mem_tile 768 i3 3 rfl r w⟩
  exact View.allAt_cons_unit _ _ _ _ _ (tile_at 3 p3 _ j r w (by fin_cases j <;> simp))
    (View.allAt_cons_unit _ _ _ _ _ (tile_at 2 p2 _ j r w (by fin_cases j <;> simp))
    (View.allAt_cons_unit _ _ _ _ _ (tile_at 1 p1 _ j r w (by fin_cases j <;> simp))
    (View.allAt_cons_unit _ _ _ _ _ (tile_at 0 p0 _ j r w (by fin_cases j <;> simp)) (View.allAt_nil _ _))))

/-- An index of head `k`'s slab, -/
theorem slab_emb {a b : ℕ} (k : ℕ) (i) (j : Fin 4) (hj : j.val = k) (r : Fin a) (w : Fin b) :
    ix3 j r w = (Rect.unit (s := (⟨3, ![4, a, b]⟩ : Shape)) ![k, 0, 0] ![1, a, b] i).emb (ix3 (0 : Fin 1) r w) := by
  funext e
  match e with
  | ⟨0, _⟩ => exact Fin.ext (show j.val = k + 1 * 0 by omega)
  | ⟨1, _⟩ => exact Fin.ext (show r.val = 0 + 1 * r.val by omega)
  | ⟨2, _⟩ => exact Fin.ext (show w.val = 0 + 1 * w.val by omega)

/-- and one of another head's. -/
theorem slab_not_mem {a b : ℕ} (k : ℕ) (i) (j : Fin 4) (hj : j.val ≠ k) (r : Fin a) (w : Fin b) :
    ix3 j r w ∉ (Rect.unit (s := (⟨3, ![4, a, b]⟩ : Shape)) ![k, 0, 0] ![1, a, b] i).set := fun h => by
  have h0 : k ≤ j.val ∧ j.val < k + 1 := Rect.mem_set_unit.mp h 0
  omega

/-- Four slabs of a table with one slab a head, the last of the table's stores. -/
theorem canon_stack {a b : ℕ} (p0 p1 p2 p3 : (⟨3, ![1, a, b]⟩ : Shape).Idx → Elt Ideal .f32) (i0 i1 i2 i3)
    (L : List (View.Piece (Elt Ideal) (⟨3, ![4, a, b]⟩ : Shape) .f32)) (j : Fin 4) (r : Fin a) (w : Fin b) :
    View.canon (Val := Elt Ideal) (s := (⟨3, ![4, a, b]⟩ : Shape)) (e := .f32)
      (⟨Rect.unit ![3, 0, 0] ![1, a, b] i3, p3⟩ :: ⟨Rect.unit ![2, 0, 0] ![1, a, b] i2, p2⟩ ::
        ⟨Rect.unit ![1, 0, 0] ![1, a, b] i1, p1⟩ :: ⟨Rect.unit ![0, 0, 0] ![1, a, b] i0, p0⟩ :: L)
      (ix3 j r w) = (![p0, p1, p2, p3] : Fin 4 → _) j (ix3 0 r w) := by
  have hit : ∀ (k : ℕ) (i) (p : (⟨3, ![1, a, b]⟩ : Shape).Idx → Elt Ideal .f32)
      (L : List (View.Piece (Elt Ideal) (⟨3, ![4, a, b]⟩ : Shape) .f32)), j.val = k →
      View.canon (⟨Rect.unit ![k, 0, 0] ![1, a, b] i, p⟩ :: L) (ix3 j r w) = p (ix3 0 r w) := fun k i p L h => by
    have e := View.canon_cons_emb (Val := Elt Ideal) (e := .f32)
      (Rect.unit (s := (⟨3, ![4, a, b]⟩ : Shape)) ![k, 0, 0] ![1, a, b] i) p L (ix3 (0 : Fin 1) r w)
    rwa [← slab_emb k i j h r w] at e
  have miss : ∀ (k : ℕ) (i) (p : (⟨3, ![1, a, b]⟩ : Shape).Idx → Elt Ideal .f32)
      (L : List (View.Piece (Elt Ideal) (⟨3, ![4, a, b]⟩ : Shape) .f32)), j.val ≠ k →
      View.canon (⟨Rect.unit ![k, 0, 0] ![1, a, b] i, p⟩ :: L) (ix3 j r w) = View.canon L (ix3 j r w) :=
    fun k i p L h => View.canon_cons_of_not_mem _ L (slab_not_mem k i j h r w)
  match j, hit, miss with
  | 0, hit, miss => exact (miss 3 i3 p3 _ (by decide)).trans ((miss 2 i2 p2 _ (by decide)).trans
      ((miss 1 i1 p1 _ (by decide)).trans (hit 0 i0 p0 _ rfl)))
  | 1, hit, miss => exact (miss 3 i3 p3 _ (by decide)).trans ((miss 2 i2 p2 _ (by decide)).trans (hit 1 i1 p1 _ rfl))
  | 2, hit, miss => exact (miss 3 i3 p3 _ (by decide)).trans (hit 2 i2 p2 _ rfl)
  | 3, hit, miss => exact hit 3 i3 p3 _ rfl

/-! ## The operands of head `j` at a point -/

variable (m : (ℓ : Loc nD τ sig) → Buf (Elt Ideal) ℓ) (c : Dev nD) (t : Fin cfg0.N) (j : Fin 4)

/-- The logarithm of the head's decay. -/
def lgAt : Elt Ideal .f32 :=
  View.ld (iblk m c 0 t) (Rect.unit (s := S12) (k0_off2 (grid0.coords t) (BitVec.ofNat 32 j.val)) ![1]
    (k0_off2_inb (grid0.coords t) j)) (Shape.Idx.first (Nat.lt_of_lt_of_eq Nat.one_pos numel1_S1.symm))

theorem inb_q : ∀ a, (![0, 0, 128 * j.val] : Fin 3 → ℕ) a + (![1, 512, 128] : Fin 3 → ℕ) a ≤ S1x512x512.size a := by
  fin_cases j <;> decide

theorem inb_v : ∀ a, (![0, 0, 256 * j.val] : Fin 3 → ℕ) a + (![1, 512, 256] : Fin 3 → ℕ) a ≤ S1x512x1024.size a := by
  fin_cases j <;> decide

theorem inb_g : ∀ a, (![0, 256 * j.val] : Fin 2 → ℕ) a + (![1, 256] : Fin 2 → ℕ) a ≤ S1x1024.size a := by
  fin_cases j <;> decide

theorem inb_s : ∀ a, (![j.val, 0, 0] : Fin 3 → ℕ) a + (![1, 128, 256] : Fin 3 → ℕ) a ≤ S4x128x256.size a := by
  fin_cases j <;> decide

theorem inb_d : ∀ a, (![j.val, 0, 0] : Fin 3 → ℕ) a + (![1, 512, 512] : Fin 3 → ℕ) a ≤ S4x512x512.size a := by
  fin_cases j <;> decide

/-- The head's queries. -/
def qAt : Vec Ideal S1x512x128 .bf16 := View.ld (iblk m c 1 t) (Rect.unit (s := S1x512x512) ![0, 0, 128 * j.val] ![1, 512, 128] (inb_q j))

/-- The head's keys. -/
def kAt : Vec Ideal S1x512x128 .bf16 := View.ld (iblk m c 2 t) (Rect.unit (s := S1x512x512) ![0, 0, 128 * j.val] ![1, 512, 128] (inb_q j))

/-- The head's values. -/
def vAt : Vec Ideal S1x512x256 .bf16 := View.ld (iblk m c 3 t) (Rect.unit (s := S1x512x1024) ![0, 0, 256 * j.val] ![1, 512, 256] (inb_v j))

/-- The head's norm weights. -/
def gAt : Vec Ideal S1x256 .f32 := View.ld (iblk m c 6 t) (Rect.unit (s := S1x1024) ![0, 256 * j.val] ![1, 256] (inb_g j))

/-- Head `j`'s slab of a state table. -/
def slabS (x : Vec Ideal S4x128x256 .f32) : Vec Ideal S1x128x256 .f32 := View.ld x (Rect.unit (s := S4x128x256) ![j.val, 0, 0] ![1, 128, 256] (inb_s j))

/-- Head `j`'s slab of a table of decays. -/
def slabD (x : Vec Ideal S4x512x512 .f32) : Vec Ideal S1x512x512 .f32 := View.ld x (Rect.unit (s := S4x512x512) ![j.val, 0, 0] ![1, 512, 512] (inb_d j))

/-- The state a point leaves, of the state it finds. -/
def stAfter (x : Vec Ideal S4x128x256 .f32) : FVec Ideal S1x128x256 .f32 :=
  headState (iblk m c 4 t) (iblk m c 5 t) (lgAt m c t j) (kAt m c t j) (vAt m c t j) (slabS j x)

/-- A head's output block, of the state and the decays found. -/
def outAfter (x : Vec Ideal S1x128x256 .f32) (d : Vec Ideal S1x512x512 .f32) : FVec Ideal S1x512x256 .bf16 :=
  k0_pay65 (headNum (iblk m c 4 t) (iblk m c 5 t) (lgAt m c t j) (qAt m c t j) (kAt m c t j) (vAt m c t j) d x) (gAt m c t j)

/-! ## The first chunk of a row of chunks -/

variable (r : Fin 128) (w : Fin 256)

theorem state_first (h : t.val % 8 = 0) :
    (outsAt0 m c t.val t.isLt).2.1 (ix3 j r w) = stAfter m c t j (k0_pay2 (F := Ideal)) (ix3 0 r w) := by
  rw [outsAt0_A m c t h]
  frame_open
  try simp (disch := decide) only [↓ View.readCov_skip, ↓ View.readCov_cons_toLoadRect, ↓ View.readCov_fill]
  frame_out
  try simp only [read_unread_whole]
  refine (canon_stack (a := 128) (b := 256) _ _ _ _ _ _ _ _ _ j r w).trans ?_
  fin_cases j <;> rfl

theorem state_next (h : ¬t.val % 8 = 0) :
    (outsAt0 m c t.val t.isLt).2.1 (ix3 j r w) =
      stAfter m c t j (outsAt0 m c (t.val - 1) (by omega)).2.1 (ix3 0 r w) := by
  rw [outsAt0_B m c t h]
  frame_open
  try simp (disch := decide) only [↓ View.readCov_skip, ↓ View.readCov_cons_toLoadRect, ↓ View.readCov_fill]
  frame_out
  try simp only [read_unread_whole]
  refine (canon_stack (a := 128) (b := 256) _ _ _ _ _ _ _ _ _ j r w).trans ?_
  fin_cases j <;> rfl

theorem dec_first (h : t.val % 8 = 0) (r w : Fin 512) :
    (outsAt0 m c t.val t.isLt).2.2 (ix3 j r w) = headDec (lgAt m c t j) (ix3 0 r w) := by
  rw [outsAt0_A m c t h]
  frame_open
  try simp (disch := decide) only [↓ View.readCov_skip, ↓ View.readCov_cons_toLoadRect, ↓ View.readCov_fill]
  frame_out
  try simp only [read_unread_whole]
  refine (canon_stack (a := 512) (b := 512) _ _ _ _ _ _ _ _ _ j r w).trans ?_
  fin_cases j <;> rfl

theorem dec_next (h : ¬t.val % 8 = 0) :
    (outsAt0 m c t.val t.isLt).2.2 = (outsAt0 m c (t.val - 1) (by omega)).2.2 := by
  rw [outsAt0_B m c t h]
  rfl

theorem out_first (h : t.val % 8 = 0) (r : Fin 512) :
    (outsAt0 m c t.val t.isLt).1 (ix3 0 r (⟨256 * j.val + w.val, by omega⟩ : Fin 1024)) =
      outAfter m c t j (slabS j (k0_pay2 (F := Ideal))) (headDec (lgAt m c t j)) (ix3 0 r w) := by
  rw [outsAt0_A m c t h]
  frame_open
  try simp (disch := decide) only [↓ View.readCov_skip, ↓ View.readCov_cons_toLoadRect, ↓ View.readCov_fill]
  frame_out
  try simp only [read_unread_whole]
  refine (canon_out _ _ _ _ _ _ _ _ j r w).trans ?_
  fin_cases j <;> rfl

theorem out_next (h : ¬t.val % 8 = 0) (r : Fin 512) :
    (outsAt0 m c t.val t.isLt).1 (ix3 0 r (⟨256 * j.val + w.val, by omega⟩ : Fin 1024)) =
      outAfter m c t j (slabS j (outsAt0 m c (t.val - 1) (by omega)).2.1)
        (slabD j (outsAt0 m c (t.val - 1) (by omega)).2.2) (ix3 0 r w) := by
  rw [outsAt0_B m c t h]
  frame_open
  try simp (disch := decide) only [↓ View.readCov_skip, ↓ View.readCov_cons_toLoadRect, ↓ View.readCov_fill]
  frame_out
  try simp only [read_unread_whole]
  refine (canon_out _ _ _ _ _ _ _ _ j r w).trans ?_
  fin_cases j <;> rfl

end Cert.Proof.KBlock

end
-- ==== Proof.RetMath.lean ====
/-
  Causal retention over the reals, for one head: row `i` of the result is
  `∑ j ≤ i, ⟨q i, k j⟩ · exp (g · (i - j)) · v j`.

  `out` is that sum, `state` the decayed sum of `k j ⊗ v j` over the rows before a chunk, for any chunk size `c`.
  `state_succ` steps the state over one chunk; `out_chunk` splits a row of a chunk into the chunk's own part and
  the part carried by the state. Both programs are instances: the kernel with `c = 512`, the reference with `c = 64`.
-/
module

public import Idealize.ShloMosaic.PureOps.Ideal
public import Mathlib.Analysis.SpecialFunctions.Exp
public import Mathlib.Algebra.BigOperators.Fin
public import Mathlib.Data.EReal.Operations

@[expose] public section

noncomputable section

namespace Cert.Proof.Ret

open Finset

variable (q k : ℕ → Fin 128 → ℝ) (v : ℕ → Fin 256 → ℝ) (g : ℝ)

/-- Row `i`, lane `w` of the retention. -/
def out (i : ℕ) (w : Fin 256) : ℝ :=
  ∑ j ∈ range (i + 1), (∑ d, q i d * k j d) * Real.exp (g * ((i : ℝ) - j)) * v j w

/-- What chunk `t` (of `c` rows) receives from the rows before it. -/
def state (c t : ℕ) (d : Fin 128) (w : Fin 256) : ℝ :=
  ∑ j ∈ range (t * c), Real.exp (g * ((t * c : ℕ) - 1 - (j : ℝ))) * k j d * v j w

theorem state_zero (c : ℕ) (d : Fin 128) (w : Fin 256) : state k v g c 0 d w = 0 := by
  simp [state]

/-- One chunk of the state: decay what was carried, add the chunk's rows. -/
theorem state_succ (c t : ℕ) (d : Fin 128) (w : Fin 256) :
    state k v g c (t + 1) d w = state k v g c t d w * Real.exp (c * g)
      + ∑ r : Fin c, (k (t * c + r) d * Real.exp (((c : ℝ) - 1 - r) * g)) * v (t * c + r) w := by
  unfold state
  rw [Nat.add_mul, Nat.one_mul, sum_range_add, sum_mul, Finset.sum_range (fun x => _ * v (t * c + x) w)]
  congr 1
  · refine sum_congr rfl fun j _ => ?_
    rw [show Real.exp (g * ((t * c + c : ℕ) - 1 - (j : ℝ)))
        = Real.exp (g * ((t * c : ℕ) - 1 - (j : ℝ))) * Real.exp (c * g) by
      rw [← Real.exp_add]; congr 1; push_cast; ring]
    ring
  · refine sum_congr rfl fun r _ => ?_
    rw [show g * ((t * c + c : ℕ) - 1 - ((t * c + r : ℕ) : ℝ)) = ((c : ℝ) - 1 - r) * g by push_cast; ring]
    ring

/-- One row of a chunk: the rows of the chunk up to it, and the carried state. -/
theorem out_chunk (c t : ℕ) (r : Fin c) (w : Fin 256) :
    out q k v g (t * c + r) w
      = (∑ r' : Fin c, ((∑ d, q (t * c + r) d * k (t * c + r') d)
            * (if r'.val ≤ r.val then Real.exp (g * ((r : ℝ) - r')) else 0)) * v (t * c + r') w)
        + ∑ d, (q (t * c + r) d * Real.exp (((r : ℝ) + 1) * g)) * state k v g c t d w := by
  unfold out state
  rw [show t * c + (r : ℕ) + 1 = t * c + (r + 1) by ring, sum_range_add, add_comm]
  congr 1
  · rw [show (∑ r' : Fin c, ((∑ d, q (t * c + r) d * k (t * c + r') d)
            * (if r'.val ≤ r.val then Real.exp (g * ((r : ℝ) - r')) else 0)) * v (t * c + r') w)
        = ∑ x ∈ range c, ((∑ d, q (t * c + r) d * k (t * c + x) d)
            * (if x ≤ r.val then Real.exp (g * ((r : ℝ) - x)) else 0)) * v (t * c + x) w from
      (Finset.sum_range (fun x => ((∑ d, q (t * c + r) d * k (t * c + x) d)
            * (if x ≤ r.val then Real.exp (g * ((r : ℝ) - x)) else 0)) * v (t * c + x) w)).symm]
    rw [← sum_subset (s₁ := range (r + 1)) (s₂ := range c) (by intro x; simp only [mem_range]; have := r.isLt; omega)]
    · refine sum_congr rfl fun x hx => ?_
      rw [if_pos (by simp only [mem_range] at hx; omega),
        show ((t * c + (r : ℕ) : ℕ) : ℝ) - ((t * c + x : ℕ) : ℝ) = (r : ℝ) - x by push_cast; ring]
    · intro x _ hx
      rw [if_neg (by simp only [mem_range] at hx; omega)]; ring
  · simp only [mul_sum, sum_mul]
    rw [sum_comm]
    refine sum_congr rfl fun d _ => sum_congr rfl fun j _ => ?_
    rw [show Real.exp (g * (((t * c + (r : ℕ) : ℕ) : ℝ) - j))
        = Real.exp (((r : ℝ) + 1) * g) * Real.exp (g * ((t * c : ℕ) - 1 - (j : ℝ))) by
      rw [← Real.exp_add]; congr 1; push_cast; ring]
    ring

end Cert.Proof.Ret

end
-- ==== Proof.RealVal.lean ====
/- Extended reals that are real: sums, the words met in the two programs, and differences of row numbers. -/
module

public import Idealize.ShloMosaic.Lib.Pointwise
public import proofs.«01_k».proof.Proof.RetMath

@[expose] public section

noncomputable section

namespace Cert.Proof.RealVal

open Idealize.ShloMosaic

/-- A finite sum of reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The scale of the keys, as a real. -/
def kscale : ℝ := (Ideal.ofBits .f32 0x3DB504F3#32).toReal

theorem ofBits_kscale : Ideal.ofBits .f32 1035273459#32 = (kscale : EReal) := by
  refine (EReal.coe_toReal ?_ ?_).symm <;>
    simp [Ideal.ofBits, Ideal.ieee, -EReal.coe_mul]

theorem ofBits_512 : Ideal.ofBits .f32 1140850688#32 = ((512 : ℝ) : EReal) := by
  simp [Ideal.ofBits, Ideal.ieee, -EReal.coe_mul]; norm_num

theorem ofBits_511 : Ideal.ofBits .f32 1140817920#32 = ((511 : ℝ) : EReal) := by
  simp [Ideal.ofBits, Ideal.ieee, -EReal.coe_mul]; norm_num

theorem sitofp_nat (n : ℕ) (h : n < 2 ^ 31) :
    (FloatOps.sitofp (F := Ideal) .f32 (BitVec.ofNat 32 n)) = ((n : ℝ) : EReal) := by
  show (((BitVec.ofNat 32 n).toInt : ℝ) : EReal) = _
  rw [BitVec.toInt_eq_toNat_of_lt (by rw [BitVec.toNat_ofNat]; omega), BitVec.toNat_ofNat, Nat.mod_eq_of_lt (by omega)]
  simp

theorem sitofp_sub (a b : ℕ) (ha : a < 2 ^ 30) (hb : b < 2 ^ 30) :
    (FloatOps.sitofp (F := Ideal) .f32 (IntOp.subi (BitVec.ofNat 32 a) (BitVec.ofNat 32 b))) = (((a : ℝ) - b : ℝ) : EReal) := by
  show (((BitVec.ofNat 32 a - BitVec.ofNat 32 b).toInt : ℝ) : EReal) = _
  have : (BitVec.ofNat 32 a - BitVec.ofNat 32 b).toInt = (a : ℤ) - b := by
    rw [BitVec.toInt_sub, BitVec.toInt_eq_toNat_of_lt (by rw [BitVec.toNat_ofNat]; omega),
      BitVec.toInt_eq_toNat_of_lt (by rw [BitVec.toNat_ofNat]; omega), BitVec.toNat_ofNat, BitVec.toNat_ofNat,
      Nat.mod_eq_of_lt (by omega), Nat.mod_eq_of_lt (by omega)]
    exact Int.bmod_eq_of_le (by omega) (by omega)
  rw [this]; push_cast; rfl

/-- The decay between two rows: a power of the head's decay when the second is not later, else nothing. -/
theorem decay_real (g : ℝ) (a b : ℕ) :
    (if (0 : EReal) ≤ (((a : ℝ) - b : ℝ) : EReal) then
        Ideal.exp ((g : EReal) * max (((a : ℝ) - b : ℝ) : EReal) 0) else 0)
      = ((if b ≤ a then Real.exp (g * ((a : ℝ) - b)) else 0 : ℝ) : EReal) := by
  by_cases h : b ≤ a
  · have h' : (0 : ℝ) ≤ (a : ℝ) - b := by
      have : (b : ℝ) ≤ a := by exact_mod_cast h
      linarith
    rw [if_pos (by exact_mod_cast h'), if_pos h, max_eq_left (by exact_mod_cast h'), ← EReal.coe_mul, Ideal.exp_coe]
  · have h' : ¬ (0 : ℝ) ≤ (a : ℝ) - b := by
      have : (a : ℝ) < b := by exact_mod_cast (Nat.lt_of_not_le h)
      linarith
    rw [if_neg (by exact_mod_cast h'), if_neg h]; rfl

/-- The lane the rotation pairs with lane `d`. -/
def pairLane (d : Fin 128) : Fin 128 := ⟨(d.val + 64) % 128, Nat.mod_lt _ (by norm_num)⟩

/-- A rotated row. -/
def rope (x cs sn : Fin 128 → ℝ) (d : Fin 128) : ℝ := x d * cs d + x (pairLane d) * sn d

end Cert.Proof.RealVal

end
-- ==== Proof.Spec.lean ====
/- The retention of the layer, over the reals: of finite projections and rotary tables, head by head; the norm of its rows. -/
module

public import proofs.«01_k».proof.Proof.RetMath
public import proofs.«01_k».proof.Proof.RealVal
public import Idealize.ShloMosaic.Lib.Pointwise

@[expose] public section

noncomputable section

namespace Cert.Proof.Spec

open Idealize.ShloMosaic Cert.Proof.RealVal

/-- Real numbers that the three arrays hold: the projections (their columns of queries, keys and values), the cosines and
    the sines, whose halves are the same angles, the sine negated in the first. -/
structure Reals (a0 : Vec Ideal (⟨3, ![4, 4096, 11264]⟩ : Shape) .bf16) (a1 a2 : Vec Ideal (⟨3, ![4, 4096, 128]⟩ : Shape) .f32) where
  H : Fin 4 → ℕ → ℕ → ℝ
  C : Fin 4 → ℕ → Fin 128 → ℝ
  S : Fin 4 → ℕ → Fin 128 → ℝ
  hH : ∀ (b : Fin 4) (i : Fin 4096) (n : Fin 11264), n.val < 6144 → a0 (ix3 b i n) = (H b i n : EReal)
  hC : ∀ (b : Fin 4) (i : Fin 4096) (d : Fin 128), a1 (ix3 b i d) = (C b i d : EReal)
  hS : ∀ (b : Fin 4) (i : Fin 4096) (d : Fin 128), a2 (ix3 b i d) = (S b i d : EReal)
  hCC : ∀ (b : Fin 4) (i : Fin 4096) (d : Fin 128), d.val < 64 → C b i d = C b i (pairLane d)
  hSS : ∀ (b : Fin 4) (i : Fin 4096) (d : Fin 128), d.val < 64 → S b i d = -S b i (pairLane d)

/-- The logarithm of head `n`'s decay, as the host computes it, -/
def lgHost (n : Fin 12) : EReal :=
  Ideal.log1p (-(Ideal.exp (Ideal.ofBits .f32 0x3F317218#32 * (Ideal.ofBits .f32 0xC0A00000#32 - ((n.val : ℝ) : EReal)))))

/-- and as a real. -/
def gam (n : Fin 12) : ℝ :=
  Real.log (1 - Real.exp ((Ideal.ofBits .f32 0x3F317218#32).toReal * (-5 - (n.val : ℝ))))

theorem lgHost_real (n : Fin 12) : lgHost n = (gam n : EReal) := by
  have h5 : Ideal.ofBits .f32 0xC0A00000#32 = ((-5 : ℝ) : EReal) := by
    simp [Ideal.ofBits, Ideal.ieee, -EReal.coe_mul]; norm_num
  have h2 : ∃ x : ℝ, 0 < x ∧ Ideal.ofBits .f32 0x3F317218#32 = (x : EReal) := by
    refine ⟨(Ideal.ofBits .f32 0x3F317218#32).toReal, ?_, ?_⟩
    · simp [Ideal.ofBits, Ideal.ieee, -EReal.coe_mul]
    · refine (EReal.coe_toReal ?_ ?_).symm <;> simp [Ideal.ofBits, Ideal.ieee, -EReal.coe_mul]
  obtain ⟨x, hx, h2⟩ := h2
  have hn : (0 : ℝ) ≤ n.val := Nat.cast_nonneg _
  have hlt : Real.exp (x * (-5 - (n.val : ℝ))) < 1 := by
    rw [Real.exp_lt_one_iff]
    nlinarith
  unfold lgHost gam
  rw [h5, h2, EReal.toReal_coe, ← EReal.coe_sub, ← EReal.coe_mul, Ideal.exp_coe, ← EReal.coe_neg]
  show Ideal.log (((1 : ℝ) : EReal) + _) = _
  rw [← EReal.coe_add, ← sub_eq_add_neg]
  show (if _ then _ else _) = _
  rw [if_neg (by linarith)]

variable {a0 : Vec Ideal (⟨3, ![4, 4096, 11264]⟩ : Shape) .bf16} {a1 a2 : Vec Ideal (⟨3, ![4, 4096, 128]⟩ : Shape) .f32}
  (A : Reals a0 a1 a2) (b : Fin 4) (h : Fin 12)

/-- The rotated queries of a head, -/
def q (i : ℕ) (d : Fin 128) : ℝ := rope (fun d => A.H b i (128 * h.val + d.val)) (A.C b i) (A.S b i) d
/-- its rotated and scaled keys, -/
def k (i : ℕ) (d : Fin 128) : ℝ := rope (fun d => A.H b i (1536 + 128 * h.val + d.val)) (A.C b i) (A.S b i) d * kscale
/-- its values, -/
def v (i : ℕ) (w : Fin 256) : ℝ := A.H b i (3072 + 256 * h.val + w.val)
/-- its state before a chunk of `c` rows, -/
def state (c t : ℕ) (d : Fin 128) (w : Fin 256) : ℝ := Ret.state (k A b h) (v A b h) (gam h) c t d w
/-- and its retention. -/
def out (i : ℕ) (w : Fin 256) : ℝ := Ret.out (q A b h) (k A b h) (v A b h) (gam h) i w

/-- The norm of a row: its mean taken out, divided by the root of its variance, weighted. -/
def normRow (o : Fin 256 → EReal) (g : EReal) (w : Fin 256) : EReal :=
  (o w - Ideal.div (∑ x, o x) (Ideal.ofBits .f32 1132462080#32)) *
    Ideal.rsqrt (Ideal.div (∑ x, (o x - Ideal.div (∑ x, o x) (Ideal.ofBits .f32 1132462080#32)) *
        (o x - Ideal.div (∑ x, o x) (Ideal.ofBits .f32 1132462080#32))) (Ideal.ofBits .f32 1132462080#32) +
      Ideal.ofBits .f32 897988541#32) * g

/-- What both programs leave: at batch `x 0`, row `x 1` and column `x 2`, a head's normed retention. -/
def G (g : Vec Ideal (⟨1, ![3072]⟩ : Shape) .f32) : Vec Ideal (⟨3, ![4, 4096, 3072]⟩ : Shape) .bf16 := fun x =>
  normRow (fun y => (out A (x 0) ⟨(x 2).val / 256, by have : (x 2).val < 3072 := (x 2).isLt; omega⟩ (x 1).val y : EReal))
    (g (ix1 (x 2))) ⟨(x 2).val % 256, Nat.mod_lt _ (by norm_num)⟩

theorem G_eq (g : Vec Ideal (⟨1, ![3072]⟩ : Shape) .f32) (x : (⟨3, ![4, 4096, 3072]⟩ : Shape).Idx) (b : Fin 4) (i : ℕ)
    (n : Fin 3072) (h : Fin 12) (w : Fin 256) (hb : x 0 = b) (hi : (x 1).val = i) (hn : x 2 = n) (hh : n.val / 256 = h.val)
    (hw : n.val % 256 = w.val) :
    G A g x = normRow (fun y => (out A b h i y : EReal)) (g (ix1 n)) w := by
  subst hb hi hn
  have e1 : h = ⟨(x 2).val / 256, by have : (x 2).val < 3072 := (x 2).isLt; omega⟩ := Fin.ext hh.symm
  have e2 : w = ⟨(x 2).val % 256, Nat.mod_lt _ (by norm_num)⟩ := Fin.ext hw.symm
  rw [e1, e2]; rfl

end Cert.Proof.Spec

end
-- ==== Proof.KHead.lean ====
/- The functions of one head, over the reals: when the operands are real, the state and the retained values of a chunk are the
   real sums of a chunk of 512 rows; and the norm of a row. -/
module

public import proofs.«01_k».proof.Proof.KBlock
public import proofs.«01_k».proof.Proof.Spec

@[expose] public section

set_option maxRecDepth 16384

noncomputable section

namespace Cert.Proof.KHead

open Idealize.ShloMosaic Idealize.ShloMosaic.TcCoe Idealize.SL.Sem
open Cert.KernelIdeal Cert.KernelIdeal.Gen Cert.Proof.KBlock Cert.Proof.RealVal Cert.Proof.Spec

theorem headDec_real (g : ℝ) (r k : Fin 512) :
    headDec (g : EReal) (ix3 0 r k) = ((if k.val ≤ r.val then Real.exp (g * ((r.val : ℝ) - k.val)) else 0 : ℝ) : EReal) := by
  unfold headDec k0_pay7 k0_pay3
  pointwise
  rw [sitofp_sub _ _ (by omega) (by omega)]
  exact decay_real g r.val k.val

theorem lane (d : Fin 128) (h : (d.val + 128 - 64) % 128 < 128) : (⟨(d.val + 128 - 64) % 128, h⟩ : Fin 128) = pairLane d :=
  Fin.ext (by show (d.val + 128 - 64) % 128 = (d.val + 64) % 128; omega)

variable {x4 x5 : Vec Ideal S1x512x128 .f32} {qx kx : Vec Ideal S1x512x128 .bf16}
  {vx : Vec Ideal S1x512x256 .bf16} {dec : Vec Ideal S1x512x512 .f32} {st : Vec Ideal S1x128x256 .f32}
  (g : ℝ) (cs sn q k : Fin 512 → Fin 128 → ℝ) (v : Fin 512 → Fin 256 → ℝ) (D : Fin 512 → Fin 512 → ℝ) (s : Fin 128 → Fin 256 → ℝ)

theorem headNum_real (hc : ∀ r d, x4 (ix3 0 r d) = (cs r d : EReal)) (hs : ∀ r d, x5 (ix3 0 r d) = (sn r d : EReal))
    (hq : ∀ r d, qx (ix3 0 r d) = (q r d : EReal)) (hk : ∀ r d, kx (ix3 0 r d) = (k r d : EReal))
    (hv : ∀ r w, vx (ix3 0 r w) = (v r w : EReal)) (hd : ∀ r r', dec (ix3 0 r r') = (D r r' : EReal))
    (hst : ∀ d w, st (ix3 0 d w) = (s d w : EReal)) (r : Fin 512) (w : Fin 256) :
    headNum x4 x5 (g : EReal) qx kx vx dec st (ix2 r w) =
      (((∑ r' : Fin 512, ((∑ d, rope (q r) (cs r) (sn r) d * (rope (k r') (cs r') (sn r') d * kscale)) * D r r') * v r' w)
        + ∑ d, (rope (q r) (cs r) (sn r) d * Real.exp (((r.val : ℝ) + 1) * g)) * s d w : ℝ) : EReal) := by
  unfold headNum
  unfold_payloads
  pointwise
  simp only [lane, hc, hs, hq, hk, hv, hd, hst, ofBits_kscale, sitofp_nat _ (show r.val < 2 ^ 31 by omega), rope]
  simp only [EReal.coe_add, EReal.coe_mul, coe_sum, EReal.coe_one, ← Ideal.exp_coe]

theorem headState_real (hc : ∀ r d, x4 (ix3 0 r d) = (cs r d : EReal)) (hs : ∀ r d, x5 (ix3 0 r d) = (sn r d : EReal))
    (hk : ∀ r d, kx (ix3 0 r d) = (k r d : EReal)) (hv : ∀ r w, vx (ix3 0 r w) = (v r w : EReal))
    (hst : ∀ d w, st (ix3 0 d w) = (s d w : EReal)) (d : Fin 128) (w : Fin 256) :
    headState x4 x5 (g : EReal) kx vx st (ix3 0 d w) =
      ((s d w * Real.exp ((512 : ℝ) * g)
        + ∑ r : Fin 512, (rope (k r) (cs r) (sn r) d * kscale * Real.exp (((511 : ℝ) - r.val) * g)) * v r w : ℝ) : EReal) := by
  unfold headState
  unfold_payloads
  pointwise
  have hr : ∀ r : Fin 512, FloatOps.sitofp (F := Ideal) .f32 (BitVec.ofNat 32 r.val) = ((r.val : ℝ) : EReal) := fun r =>
    sitofp_nat _ (by omega)
  have he : ∀ x : EReal, Scalar.exp (F := Ideal) (φ := .f32) x = Ideal.exp x := fun _ => rfl
  simp only [lane, hc, hs, hk, hv, hst, ofBits_kscale, ofBits_512, ofBits_511, rope, hr, he]
  simp only [EReal.coe_add, EReal.coe_mul, EReal.coe_sub, coe_sum, ← Ideal.exp_coe]

/-- The last payload is the norm of each row. -/
theorem norm_at (o : FVec Ideal S512x256 .f32) (g : Vec Ideal S1x256 .f32) (r : Fin 512) (w : Fin 256) :
    k0_pay65 o g (ix3 0 r w) = normRow (fun x => o (ix2 r x)) (g (ix2 0 w)) w := by
  unfold_payloads
  pointwise
  rfl

end Cert.Proof.KHead

end
-- ==== Proof.KRead.lean ====
/- The operands of a grid point, read from the arguments: point `t` treats batch `t / 24`, the heads `4 * (t / 8 % 3) + j`
   and the rows `512 * (t % 8) + r`. -/
module

public import proofs.«01_k».proof.Proof.KHead

@[expose] public section

set_option maxRecDepth 16384

noncomputable section

namespace Cert.Proof.KRead

open Idealize.ShloMosaic Idealize.ShloMosaic.TcCoe Idealize.SL.Sem
open Cert.KernelIdeal Cert.KernelIdeal.Gen Cert.Proof.KBlock Cert.Proof.KHead Cert.Proof.Spec

/-- The batch, -/
def bt (t : Fin cfg0.N) : Fin 4 := ⟨t.val / 24, by have := t.isLt; have : cfg0.N = 96 := rfl; omega⟩
/-- the head -/
def hd (t : Fin cfg0.N) (j : Fin 4) : Fin 12 := ⟨4 * (t.val / 8 % 3) + j.val, by omega⟩
/-- and the row of a point. -/
def row (t : Fin cfg0.N) (r : Fin 512) : Fin 4096 := ⟨t.val % 8 * 512 + r.val, by omega⟩

theorem idx1 : ∀ t : Fin cfg0.N, win0_1.index t = ![t.val / 24, t.val % 8, t.val / 8 % 3] :=
  (by decide +kernel : ∀ t : Fin grid0.N, _)
theorem idx2 : ∀ t : Fin cfg0.N, win0_2.index t = ![t.val / 24, t.val % 8, 3 + t.val / 8 % 3] :=
  (by decide +kernel : ∀ t : Fin grid0.N, _)
theorem idx3 : ∀ t : Fin cfg0.N, win0_3.index t = ![t.val / 24, t.val % 8, 3 + t.val / 8 % 3] :=
  (by decide +kernel : ∀ t : Fin grid0.N, _)
theorem idx4 : ∀ t : Fin cfg0.N, win0_4.index t = ![t.val / 24, t.val % 8, 0] :=
  (by decide +kernel : ∀ t : Fin grid0.N, _)
theorem idx5 : ∀ t : Fin cfg0.N, win0_5.index t = ![t.val / 24, t.val % 8, 0] :=
  (by decide +kernel : ∀ t : Fin grid0.N, _)
theorem idx6 : ∀ t : Fin cfg0.N, win0_6.index t = ![0, t.val / 8 % 3] :=
  (by decide +kernel : ∀ t : Fin grid0.N, _)
theorem idx7 : ∀ t : Fin cfg0.N, win0_7.index t = ![t.val / 24, t.val % 8, t.val / 8 % 3] :=
  (by decide +kernel : ∀ t : Fin grid0.N, _)
theorem lg_off : ∀ (t : Fin cfg0.N) (j : Fin 4), k0_off2 (grid0.coords t) (BitVec.ofNat 32 j.val) 0 = 4 * (t.val / 8 % 3) + j.val :=
  (by decide +kernel : ∀ (t : Fin grid0.N) (j : Fin 4), _)

variable (m : (ℓ : Loc nD τ sig) → Buf (Elt Ideal) ℓ) (c : Dev nD) (t : Fin cfg0.N) (j : Fin 4)

theorem q_at (r : Fin 512) (d : Fin 128) : qAt m c t j (ix3 0 r d) =
    m ((c : Thread nD τ).loc main_arg0) (ix3 (bt t) (row t r) (⟨128 * (hd t j).val + d.val, by omega⟩ : Fin 11264)) := by
  refine (View.ld_unit_apply_of _ _ _ _ _ (ix3 (0 : Fin 1) r (⟨128 * j.val + d.val, by omega⟩ : Fin 512)) ?_).trans ?_
  · intro a; fin_cases a <;> simp
  · blk_ext [iblk, V_main_arg0, idx1, bt, row, hd]

theorem k_at (r : Fin 512) (d : Fin 128) : kAt m c t j (ix3 0 r d) =
    m ((c : Thread nD τ).loc main_arg0) (ix3 (bt t) (row t r) (⟨1536 + 128 * (hd t j).val + d.val, by omega⟩ : Fin 11264)) := by
  refine (View.ld_unit_apply_of _ _ _ _ _ (ix3 (0 : Fin 1) r (⟨128 * j.val + d.val, by omega⟩ : Fin 512)) ?_).trans ?_
  · intro a; fin_cases a <;> simp
  · blk_ext [iblk, V_main_arg0, idx2, bt, row, hd]

theorem v_at (r : Fin 512) (w : Fin 256) : vAt m c t j (ix3 0 r w) =
    m ((c : Thread nD τ).loc main_arg0) (ix3 (bt t) (row t r) (⟨3072 + 256 * (hd t j).val + w.val, by omega⟩ : Fin 11264)) := by
  refine (View.ld_unit_apply_of _ _ _ _ _ (ix3 (0 : Fin 1) r (⟨256 * j.val + w.val, by omega⟩ : Fin 1024)) ?_).trans ?_
  · intro a; fin_cases a <;> simp
  · blk_ext [iblk, V_main_arg0, idx3, bt, row, hd]

theorem c_at (r : Fin 512) (d : Fin 128) : iblk m c 4 t (ix3 0 r d) =
    m ((c : Thread nD τ).loc main_arg1) (ix3 (bt t) (row t r) d) := by
  blk_ext [iblk, V_main_arg1, idx4, bt, row]

theorem s_at (r : Fin 512) (d : Fin 128) : iblk m c 5 t (ix3 0 r d) =
    m ((c : Thread nD τ).loc main_arg2) (ix3 (bt t) (row t r) d) := by
  blk_ext [iblk, V_main_arg2, idx5, bt, row]

theorem g_at (w : Fin 256) : gAt m c t j (ix2 0 w) =
    m ((c : Thread nD τ).loc main_arg3) (ix1 (⟨256 * (hd t j).val + w.val, by omega⟩ : Fin 3072)) := by
  refine (View.ld_unit_apply_of _ _ _ _ _ (ix2 (0 : Fin 1) (⟨256 * j.val + w.val, by omega⟩ : Fin 1024)) ?_).trans ?_
  · intro a; fin_cases a <;> simp
  · blk_simp [iblk]
    entry_read
    pointwise
    refine congrArg (fun n => m ((c : Thread nD τ).loc main_arg3) (ix1 n)) (Fin.ext ?_)
    blk_simp [idx6, hd]
    show t.val / 8 % 3 * 1024 + (256 * j.val + w.val) = 256 * (4 * (t.val / 8 % 3) + j.val) + w.val
    omega

theorem lg_at : lgAt m c t j = lgHost (hd t j) := by
  refine (View.ld_unit_apply_of _ _ _ _ _ (ix1 (hd t j)) ?_).trans ?_
  · intro a; fin_cases a; simp [lg_off, hd]
  · have e : ((View.whole main_v7).slice (win0_0.rect t)).emb (ix1 (hd t j)) 0 = hd t j := Fin.ext (by
      blk_simp [show win0_0.index t = ![0] from rfl])
    blk_simp [iblk]
    entry_read
    pointwise
    rw [e, RealVal.sitofp_nat _ (by have := (hd t j).isLt; omega)]
    rfl

end Cert.Proof.KRead

end
-- ==== Proof.KRet.lean ====
/- The array the kernel leaves: every row is the norm of a row of the retention. Down a row of chunks the state a point leaves is
   the state before the next chunk, and the table of decays is the first point's. -/
module

public import proofs.«01_k».proof.Proof.KRead

@[expose] public section

set_option maxRecDepth 16384

noncomputable section

namespace Cert.Proof.KRet

open Idealize.ShloMosaic Idealize.ShloMosaic.TcCoe Idealize.SL.Sem
open Cert.KernelIdeal Cert.KernelIdeal.Gen Cert.Proof.KBlock Cert.Proof.KHead Cert.Proof.KRead Cert.Proof.RealVal

variable (m : (ℓ : Loc nD τ sig) → Buf (Elt Ideal) ℓ) (c : Dev nD)
  (A : Spec.Reals (m ((c : Thread nD τ).loc main_arg0)) (m ((c : Thread nD τ).loc main_arg1)) (m ((c : Thread nD τ).loc main_arg2)))

theorem lg_real (t : Fin cfg0.N) (j : Fin 4) : lgAt m c t j = (Spec.gam (hd t j) : EReal) := by
  rw [lg_at, Spec.lgHost_real]

theorem slabS_at (x : Vec Ideal S4x128x256 .f32) (j : Fin 4) (d : Fin 128) (w : Fin 256) :
    slabS j x (ix3 0 d w) = x (ix3 j d w) :=
  View.ld_unit_apply_of _ _ _ _ _ _ (by intro a; fin_cases a <;> simp)

theorem slabD_at (x : Vec Ideal S4x512x512 .f32) (j : Fin 4) (d w : Fin 512) :
    slabD j x (ix3 0 d w) = x (ix3 j d w) :=
  View.ld_unit_apply_of _ _ _ _ _ _ (by intro a; fin_cases a <;> simp)

/-- The state a point leaves, over a state that is real. -/
theorem stAfter_real (t : Fin cfg0.N) (j : Fin 4) (x : Vec Ideal S4x128x256 .f32)
    (hx : ∀ d w, x (ix3 j d w) = (Spec.state A (bt t) (hd t j) 512 (t.val % 8) d w : EReal)) (d : Fin 128) (w : Fin 256) :
    stAfter m c t j x (ix3 0 d w) = (Spec.state A (bt t) (hd t j) 512 (t.val % 8 + 1) d w : EReal) := by
  unfold stAfter
  rw [lg_real]
  refine (headState_real (Spec.gam (hd t j)) (fun r d => A.C (bt t) (row t r).val d) (fun r d => A.S (bt t) (row t r).val d)
    (fun r d => A.H (bt t) (row t r).val (1536 + 128 * (hd t j).val + d.val))
    (fun r w => A.H (bt t) (row t r).val (3072 + 256 * (hd t j).val + w.val))
    (fun d w => Spec.state A (bt t) (hd t j) 512 (t.val % 8) d w)
    (fun r d => (c_at m c t r d).trans (A.hC _ _ _)) (fun r d => (s_at m c t r d).trans (A.hS _ _ _))
    (fun r d => (k_at m c t j r d).trans (A.hH _ _ _ (by have := (hd t j).isLt; show 1536 + 128 * (hd t j).val + d.val < 6144; omega)))
    (fun r w => (v_at m c t j r w).trans (A.hH _ _ _ (by have := (hd t j).isLt; show 3072 + 256 * (hd t j).val + w.val < 6144; omega)))
    (fun d w => (slabS_at x j d w).trans (hx d w)) d w).trans (congrArg _ ?_)
  unfold Spec.state
  rw [Ret.state_succ]
  have h5 : ∀ r : Fin 512, ((511 : ℝ) - r.val) = ((512 : ℕ) : ℝ) - 1 - r.val := fun r => by push_cast; ring
  simp only [h5]
  rfl

/-- A head's output block, over a state and decays that are real. -/
theorem outAfter_real (t : Fin cfg0.N) (j : Fin 4) (x : Vec Ideal S1x128x256 .f32) (D : Vec Ideal S1x512x512 .f32)
    (hx : ∀ d w, x (ix3 0 d w) = (Spec.state A (bt t) (hd t j) 512 (t.val % 8) d w : EReal))
    (hD : ∀ r r', D (ix3 0 r r') = headDec (lgAt m c t j) (ix3 0 r r')) (r : Fin 512) (w : Fin 256) :
    outAfter m c t j x D (ix3 0 r w) =
      Spec.normRow (fun y => (Spec.out A (bt t) (hd t j) (row t r).val y : EReal))
        (m ((c : Thread nD τ).loc main_arg3) (ix1 (⟨256 * (hd t j).val + w.val, by omega⟩ : Fin 3072))) w := by
  unfold outAfter
  rw [norm_at, g_at]
  refine congrArg (fun o => Spec.normRow o _ w) (funext fun y => ?_)
  rw [lg_real]
  refine (headNum_real (Spec.gam (hd t j)) (fun r d => A.C (bt t) (row t r).val d) (fun r d => A.S (bt t) (row t r).val d)
    (fun r d => A.H (bt t) (row t r).val (128 * (hd t j).val + d.val))
    (fun r d => A.H (bt t) (row t r).val (1536 + 128 * (hd t j).val + d.val))
    (fun r w => A.H (bt t) (row t r).val (3072 + 256 * (hd t j).val + w.val))
    (fun r r' => if r'.val ≤ r.val then Real.exp (Spec.gam (hd t j) * ((r.val : ℝ) - r'.val)) else 0)
    (fun d w => Spec.state A (bt t) (hd t j) 512 (t.val % 8) d w)
    (fun r d => (c_at m c t r d).trans (A.hC _ _ _)) (fun r d => (s_at m c t r d).trans (A.hS _ _ _))
    (fun r d => (q_at m c t j r d).trans (A.hH _ _ _ (by have := (hd t j).isLt; show 128 * (hd t j).val + d.val < 6144; omega)))
    (fun r d => (k_at m c t j r d).trans (A.hH _ _ _ (by have := (hd t j).isLt; show 1536 + 128 * (hd t j).val + d.val < 6144; omega)))
    (fun r w => (v_at m c t j r w).trans (A.hH _ _ _ (by have := (hd t j).isLt; show 3072 + 256 * (hd t j).val + w.val < 6144; omega)))
    (fun r r' => (hD r r').trans (by rw [lg_real]; exact headDec_real _ r r'))
    hx r y).trans (congrArg _ ?_)
  unfold Spec.out
  rw [show (row t r).val = t.val % 8 * 512 + r.val from rfl, Ret.out_chunk]
  rfl

/-- Down a row of chunks. -/
theorem state_at (n : ℕ) : ∀ (t : Fin cfg0.N), t.val % 8 = n → ∀ (j : Fin 4) (d : Fin 128) (w : Fin 256),
    (outsAt0 m c t.val t.isLt).2.1 (ix3 j d w) = (Spec.state A (bt t) (hd t j) 512 (t.val % 8 + 1) d w : EReal) := by
  induction n with
  | zero =>
    intro t ht j d w
    rw [state_first m c t j d w ht]
    refine stAfter_real m c A t j _ (fun d w => ?_) d w
    rw [ht]
    unfold Spec.state
    rw [Ret.state_zero]
    unfold k0_pay2
    pointwise
    rfl
  | succ n ih =>
    intro t ht j d w
    have h0 : ¬t.val % 8 = 0 := by omega
    rw [state_next m c t j d w h0]
    refine stAfter_real m c A t j _ (fun d w => ?_) d w
    have e := ih ⟨t.val - 1, by have := t.isLt; omega⟩ (by show (t.val - 1) % 8 = n; omega) j d w
    refine e.trans ?_
    have e1 : bt ⟨t.val - 1, by have := t.isLt; omega⟩ = bt t := Fin.ext (by show (t.val - 1) / 24 = t.val / 24; omega)
    have e2 : hd ⟨t.val - 1, by have := t.isLt; omega⟩ j = hd t j :=
      Fin.ext (by show 4 * ((t.val - 1) / 8 % 3) + j.val = 4 * (t.val / 8 % 3) + j.val; omega)
    rw [e1, e2, show (t.val - 1) % 8 + 1 = t.val % 8 by omega]

theorem dec_at (n : ℕ) : ∀ (t : Fin cfg0.N), t.val % 8 = n → ∀ (j : Fin 4) (r r' : Fin 512),
    (outsAt0 m c t.val t.isLt).2.2 (ix3 j r r') = headDec (lgAt m c t j) (ix3 0 r r') := by
  induction n with
  | zero => exact fun t ht j r r' => dec_first m c t j ht r r'
  | succ n ih =>
    intro t ht j r r'
    rw [dec_next m c t (by omega)]
    refine (ih ⟨t.val - 1, by have := t.isLt; omega⟩ (by show (t.val - 1) % 8 = n; omega) j r r').trans ?_
    have e2 : hd ⟨t.val - 1, by have := t.isLt; omega⟩ j = hd t j :=
      Fin.ext (by show 4 * ((t.val - 1) / 8 % 3) + j.val = 4 * (t.val / 8 % 3) + j.val; omega)
    rw [lg_real, lg_real, e2]

/-- The block a point leaves. -/
theorem out_at (t : Fin cfg0.N) (j : Fin 4) (r : Fin 512) (w : Fin 256) :
    (outsAt0 m c t.val t.isLt).1 (ix3 0 r (⟨256 * j.val + w.val, by omega⟩ : Fin 1024)) =
      Spec.normRow (fun y => (Spec.out A (bt t) (hd t j) (row t r).val y : EReal))
        (m ((c : Thread nD τ).loc main_arg3) (ix1 (⟨256 * (hd t j).val + w.val, by omega⟩ : Fin 3072))) w := by
  by_cases h0 : t.val % 8 = 0
  · rw [out_first m c t j w h0 r]
    refine outAfter_real m c A t j _ _ (fun d w => ?_) (fun _ _ => rfl) r w
    rw [slabS_at, h0]
    unfold Spec.state
    rw [Ret.state_zero]
    unfold k0_pay2
    pointwise
    rfl
  · rw [out_next m c t j w h0 r]
    have hN := t.isLt
    have e1 : bt ⟨t.val - 1, by omega⟩ = bt t := Fin.ext (by show (t.val - 1) / 24 = t.val / 24; omega)
    have e2 : hd ⟨t.val - 1, by omega⟩ j = hd t j :=
      Fin.ext (by show 4 * ((t.val - 1) / 8 % 3) + j.val = 4 * (t.val / 8 % 3) + j.val; omega)
    refine outAfter_real m c A t j _ _ (fun d w => ?_) (fun r r' => ?_) r w
    · rw [slabS_at]
      refine (state_at m c A _ ⟨t.val - 1, by omega⟩ rfl j d w).trans ?_
      rw [e1, e2, show (t.val - 1) % 8 + 1 = t.val % 8 by omega]
    · rw [slabD_at]
      refine (dec_at m c _ ⟨t.val - 1, by omega⟩ rfl j r r').trans ?_
      rw [lg_real, lg_real, e2]

/-- The result array is the normed retention. -/
theorem final : (dats m 0 c).arrAt 7 cfg0.N = Spec.G A (m ((c : Thread nD τ).loc main_arg3)) := by
  refine (dats m 0 c).arrAt_eq_of_covers 7 _ (by decide +kernel) fun t hf y => ?_
  blk_simp
  rw [after0_7]
  have hN := t.isLt
  have h1 : (y 0).val < 1 := (y 0).isLt
  have h2 : (y 1).val < 512 := (y 1).isLt
  have h3 : (y 2).val < 1024 := (y 2).isLt
  have hy : y = ix3 (0 : Fin 1) (⟨(y 1).val, h2⟩ : Fin 512)
      (⟨256 * ((⟨(y 2).val / 256, by omega⟩ : Fin 4)).val + (⟨(y 2).val % 256, Nat.mod_lt _ (by norm_num)⟩ : Fin 256).val,
        by show 256 * ((y 2).val / 256) + (y 2).val % 256 < 1024; omega⟩ : Fin 1024) := by
    refine (eq_ix3 y).trans (congr (congrArg₂ (fun u v => ix3 u v) (Fin.ext (show (y 0).val = 0 by omega)) rfl) ?_)
    exact (Fin.ext (show (y 2).val = 256 * ((y 2).val / 256) + (y 2).val % 256 by omega))
  refine ((congrArg _ hy).trans (out_at m c A t _ _ _)).trans (Spec.G_eq A _ _ _ _ _ _ _ ?_ ?_ ?_ ?_ ?_).symm
  · refine Fin.ext ?_
    blk_simp [idx7, bt]
  · blk_simp [idx7, row]
  · refine Fin.ext ?_
    blk_simp [idx7, hd]
    show t.val / 8 % 3 * 1024 + (y 2).val = 256 * (4 * (t.val / 8 % 3) + (y 2).val / 256) + (y 2).val % 256
    omega
  · show (256 * (4 * (t.val / 8 % 3) + (y 2).val / 256) + (y 2).val % 256) / 256 = 4 * (t.val / 8 % 3) + (y 2).val / 256
    omega
  · show (256 * (4 * (t.val / 8 % 3) + (y 2).val / 256) + (y 2).val % 256) % 256 = (y 2).val % 256
    omega

end Cert.Proof.KRet

end
-- ==== Proof.RefRun.lean ====
/- The reference's loop, trip by trip: when the loop's buffers hold a state, one more trip makes them hold the next
   state; so the reference's result is read from state number 64 of any sequence that starts at the initial state and goes on by `step`. -/
module

public import proofs.«01_k».proof.Proof.Gen.ReferenceIdeal.Run
public import proofs.«01_k».proof.Proof.Gen.ReferenceIdeal.Step

@[expose] public section

noncomputable section

namespace Cert.Proof.RefRun

open Idealize.ShloMosaic Idealize.ShloMosaic.TcCoe Idealize.SL.Sem Idealize.ShloMosaic.StableHlo
open Cert.ReferenceIdeal Cert.ReferenceIdeal.Gen Cert.ReferenceIdeal.Value
open Cert.ReferenceIdeal.Step (State step init)

variable {F : FTy → Type} [FloatOps F]

/-- The carried buffers and the constants the body reads, all at once: state `s`, trip number `j`. -/
def At (V : Valuation τ sig (Elt F)) (s : State F) (j : ℕ) : Prop :=
  ((V (Proc.devRef .tc main_v103_8) = s.main_v103_8 ∧ V (Proc.devRef .tc main_v103_9) = s.main_v103_9) ∧
    V (Proc.devRef .tc main_v103_0) = s.main_v103_0 ∧ V (Proc.devRef .tc main_v103_1) = s.main_v103_1 ∧
    V (Proc.devRef .tc main_v103_2) = s.main_v103_2 ∧ V (Proc.devRef .tc main_v103_3) = s.main_v103_3) ∧
  V (Proc.devRef .tc main_v103_7) = constantI S_ 32 (BitVec.ofNat 32 j) ∧
  V (Proc.devRef .tc main_v103_4) = Step.K_main_v85 (F := F) ∧
  V (Proc.devRef .tc main_v103_5) = Step.K_main_v96 (F := F) ∧
  V (Proc.devRef .tc main_v103_6) = Step.K_main_v93 (F := F)

set_option maxRecDepth 16384 in
/-- One trip. -/
theorem at_step {V : Valuation τ sig (Elt F)} {s : State F} {j : ℕ} (h : At V s j) :
    At (STEP V) (step j s) (j + 1) := by
  obtain ⟨⟨⟨h8, h9⟩, h0, h1, h2, h3⟩, h7, h4, h5, h6⟩ := h
  refine ⟨⟨⟨?_, ?_⟩, (STEP_main_v103_0 V).trans h0, (STEP_main_v103_1 V).trans h1, (STEP_main_v103_2 V).trans h2,
    (STEP_main_v103_3 V).trans h3⟩, ?_, (STEP_main_v103_4 V).trans h4, (STEP_main_v103_5 V).trans h5,
    (STEP_main_v103_6 V).trans h6⟩
  · rw [STEP_main_v103_8]; unfold step_main_v103_8; rw [h8, h5, h1, h7, h6, h2]; rfl
  · rw [STEP_main_v103_9]; unfold step_main_v103_9; rw [h9, h3, h7, h8, h0, h4]; rfl
  · rw [STEP_main_v103_7]; unfold step_main_v103_7; rw [h7]
    funext i
    show BitVec.ofNat 32 j + 1#32 = BitVec.ofNat 32 (j + 1)
    simp only [BitVec.ofNat_add]

variable (m : (ℓ : Loc nD τ sig) → Buf (Elt F) ℓ) (c : Dev nD)

/-- The state before the first trip. -/
def state0 : State F :=
  init (m ((c.tc : Thread nD τ).loc main_arg0)) (m ((c.tc : Thread nD τ).loc main_arg1)) (m ((c.tc : Thread nD τ).loc main_arg2))

set_option maxRecDepth 65536 in
set_option maxHeartbeats 700000 in
/-- What the operations before the loop leave. -/
theorem at_entry : At (entryContents preI m c) (state0 m c) 0 := by
  unfold At
  refine ⟨⟨⟨?_, ?_⟩, ?_, ?_, ?_, ?_⟩, ?_, ?_, ?_, ?_⟩ <;>
    (simp only [entryContents, afterL_cons, afterL_nil]; after_reads_simp) <;> rfl

/-- Before trip `k`. -/
theorem at_iter (it : ℕ → State F) (h0 : it 0 = state0 m c) (hs : ∀ n, it (n + 1) = step n (it n)) (k : ℕ) :
    At (STEP^[k] (entryContents preI m c)) (it k) k := by
  induction k with
  | zero => rw [h0]; exact at_entry m c
  | succ k ih => rw [Function.iterate_succ_apply', hs k]; exact at_step ih

/-- The reference's run, its result read from state number 64. -/
theorem run (m : (ℓ : Loc nD τ sig) → Buf (Elt F) ℓ) (ρ : Dev nD → PrngReg) (it : Dev nD → ℕ → State F)
    (h0 : ∀ c, it c 0 = state0 m c) (hs : ∀ c n, it c (n + 1) = step n (it c n)) :
    θ_run (defs (F := F)) (onTc (τ := τ) (main (F := F))) ⟨m, fun _ => 0, ρ⟩ fun r => ∀ c : Dev nD,
      r.2.mem ((c.tc : Thread nD τ).loc main_v128) =
        Step.R_main_v128 (it c 64) (m ((c.tc : Thread nD τ).loc main_arg3)) ∧
      r.2.mem ((c.tc : Thread nD τ).loc main_arg0) = m ((c.tc : Thread nD τ).loc main_arg0) ∧
      r.2.mem ((c.tc : Thread nD τ).loc main_arg1) = m ((c.tc : Thread nD τ).loc main_arg1) ∧
      r.2.mem ((c.tc : Thread nD τ).loc main_arg2) = m ((c.tc : Thread nD τ).loc main_arg2) ∧
      r.2.mem ((c.tc : Thread nD τ).loc main_arg3) = m ((c.tc : Thread nD τ).loc main_arg3) := by
  refine (θ_run defs _ _).mono (fun r h c => ⟨?_, (h c).2⟩) (Value.run m ρ)
  have hk := at_iter m c (it c) (h0 c) (hs c) 64
  rw [(h c).1]
  unfold out_main_v128
  rw [hk.1.1.2, iter_main_arg3 m c 64]
  rfl

end Cert.Proof.RefRun

end
-- ==== Proof.RefVal.lean ====
/- What the reference's terms hold at an index: the tables of decays, the rotated queries and keys, and the chunks. -/
module

public import proofs.«01_k».proof.Proof.Spec
public import proofs.«01_k».proof.Proof.RefRun

@[expose] public section

set_option maxRecDepth 16384

noncomputable section

namespace Cert.Proof.RefVal

open Idealize.ShloMosaic Idealize.SL.Sem
open Cert.ReferenceIdeal Cert.ReferenceIdeal.Gen Cert.ReferenceIdeal.Step Cert.Proof.RealVal

theorem lg_at (n : Fin 12) : K_main_v48 (F := Ideal) (ix1 n) = (Spec.gam n : EReal) := by
  rw [← Spec.lgHost_real]
  pointwise [K_main_v48, K_main_v47, K_main_v46, K_main_v45, K_main_v44, K_main_v43, K_main_v42, K_main_v41, K_main_cst, K_main_cst_0]
  rw [sitofp_nat _ (by omega)]
  rfl

theorem intra_at (h : Fin 12) (i j : Fin 64) : K_main_v71 (F := Ideal) (ix3 h i j) =
    ((if j.val ≤ i.val then Real.exp (Spec.gam h * ((i.val : ℝ) - j.val)) else 0 : ℝ) : EReal) := by
  rw [← decay_real]
  unfold K_main_v71 K_main_call0_v1 K_main_v70 K_main_call0_v2 K_main_v69 K_main_v62 K_main_call0_v0 K_main_v67 K_main_v68
  pointwise [K_main_v54, K_main_v55, K_main_v56, K_main_v57, K_main_v58, K_main_v59, K_main_v60, K_main_v61, K_main_v63, K_main_v64, K_main_v65, K_main_v66, K_main_cst_3, K_main_cst_4, K_main_cst_2]
  have e (i j : Fin 64) : FloatOps.sitofp (F := Ideal) .f32 (BitVec.ofNat 32 i.val) - FloatOps.sitofp (F := Ideal) .f32 (BitVec.ofNat 32 j.val)
      = (((i.val : ℝ) - j.val : ℝ) : EReal) := by
    rw [sitofp_nat _ (by omega), sitofp_nat _ (by omega), EReal.coe_sub]
  rw [e, lg_at]
  refine congrArg (ite _ _) ?_
  exact Ideal.ofBits_zero_f32

theorem qdecay_at (i : Fin 64) (h : Fin 12) : K_main_v85 (F := Ideal) (ix2 i h) =
    (Real.exp (((i.val : ℝ) + 1) * Spec.gam h) : EReal) := by
  unfold K_main_v85 K_main_v84 K_main_v83 K_main_v82 K_main_v81 K_main_v80 K_main_v79 K_main_v78 K_main_v54 K_main_cst_5
  pointwise
  rw [lg_at, sitofp_nat _ (by omega), ← Ideal.exp_coe]
  push_cast
  rfl

theorem kdecay_at (i : Fin 64) (h : Fin 12) : K_main_v93 (F := Ideal) (ix2 i h) =
    (Real.exp ((((64 : ℕ) : ℝ) - 1 - i.val) * Spec.gam h) : EReal) := by
  unfold K_main_v93 K_main_v92 K_main_v91 K_main_v90 K_main_v89 K_main_v88 K_main_v87 K_main_v86 K_main_v54 K_main_cst_6
  pointwise
  have h63 : Ideal.ofBits .f32 1115422720#32 = ((63 : ℝ) : EReal) := by
    simp [Ideal.ofBits, Ideal.ieee, -EReal.coe_mul]; norm_num
  rw [lg_at, sitofp_nat _ (by omega), h63, ← EReal.coe_sub, ← EReal.coe_mul, Ideal.exp_coe]
  norm_num

theorem cdecay_at (h : Fin 12) : K_main_v96 (F := Ideal) (ix1 h) =
    (Real.exp (((64 : ℕ) : ℝ) * Spec.gam h) : EReal) := by
  unfold K_main_v96 K_main_v95 K_main_v94 K_main_cst_7
  pointwise
  have h64 : Ideal.ofBits .f32 1115684864#32 = ((64 : ℝ) : EReal) := by
    simp [Ideal.ofBits, Ideal.ieee, -EReal.coe_mul]; norm_num
  rw [lg_at, h64, ← EReal.coe_mul, Ideal.exp_coe]
  norm_num

variable {a0 : Vec Ideal (⟨3, ![4, 4096, 11264]⟩ : Shape) .bf16} {a1 a2 : Vec Ideal (⟨3, ![4, 4096, 128]⟩ : Shape) .f32}
  (A : Spec.Reals a0 a1 a2)

/-- A rotation written on the two halves of a row: the first half, -/
theorem rope_lo (x : Fin 128 → ℝ) (b : Fin 4) (i : Fin 4096) (d p : Fin 128) (hd : d.val < 64) (hp : p.val = 64 + d.val) :
    ((x d : EReal) * (A.C b i d : EReal) - (x p : EReal) * (A.S b i p : EReal)) = (rope x (A.C b i) (A.S b i) d : EReal) := by
  have e : p = pairLane d := Fin.ext (by show p.val = (d.val + 64) % 128; omega)
  rw [← EReal.coe_mul, ← EReal.coe_mul, ← EReal.coe_sub]
  unfold rope
  rw [A.hSS b i d hd, e]
  congr 1; ring

/-- and the second. -/
theorem rope_hi (x : Fin 128 → ℝ) (b : Fin 4) (i : Fin 4096) (d p : Fin 128) (hd : ¬d.val < 64) (hp : p.val = d.val - 64) :
    ((x p : EReal) * (A.S b i d : EReal) + (x d : EReal) * (A.C b i p : EReal)) = (rope x (A.C b i) (A.S b i) d : EReal) := by
  have e : p = pairLane d := Fin.ext (by show p.val = (d.val + 64) % 128; omega)
  have e' : d = pairLane p := Fin.ext (by show d.val = (p.val + 64) % 128; omega)
  rw [← EReal.coe_mul, ← EReal.coe_mul, ← EReal.coe_add, A.hCC b i p (by omega), ← e']
  unfold rope
  rw [← e]
  congr 1; ring

/-- A column of the projections, where the values lie by name. -/
theorem h_at (b : Fin 4) (i : Fin 4096) (n : Fin 11264) (k : ℕ) (hk : n.val = k) (hn : k < 6144) :
    a0 (ix3 b i n) = (A.H b i k : EReal) := by
  subst hk; exact A.hH b i n hn

/-- The rotated queries. -/
theorem q_at (b : Fin 4) (i : Fin 4096) (h : Fin 12) (d : Fin 128) :
    A_main_v23 a0 a1 a2 (ix4 b i h d) = (Spec.q A b h i.val d : EReal) := by
  unfold A_main_v23 A_main_v22 A_main_v21 A_main_v20 A_main_v19 A_main_v18 A_main_v17 A_main_v16 A_main_v15 A_main_v14 A_main_v13 A_main_v12 A_main_v11 A_main_v10 A_main_v9 A_main_v8 A_main_v7 A_main_v2 A_main_v1 A_main_v0
  pointwise
  unfold Spec.q
  have hh := h.isLt
  by_cases hd : d.val < 64
  · rw [dif_pos hd, h_at A b i _ (128 * h.val + d.val) (by show h.val * 128 + d.val = _; omega) (by omega),
      h_at A b i _ (128 * h.val + (64 + d.val)) (by show h.val * 128 + (64 + d.val) = _; omega) (by omega), A.hC, A.hS]
    exact rope_lo A (fun d => A.H b i (128 * h.val + d.val)) b i d ⟨64 + d.val, by omega⟩ hd rfl
  · rw [dif_neg hd, h_at A b i _ (128 * h.val + (d.val - 64)) (by show h.val * 128 + (d.val - 64) = _; omega) (by omega),
      h_at A b i _ (128 * h.val + d.val) (by show h.val * 128 + (64 + (d.val - 64)) = _; omega) (by omega), A.hC, A.hS]
    have e : (⟨64 + (d.val - 64), by omega⟩ : Fin 128) = d := Fin.ext (by show 64 + (d.val - 64) = d.val; omega)
    rw [e]
    exact rope_hi A (fun d => A.H b i (128 * h.val + d.val)) b i d ⟨d.val - 64, by omega⟩ hd rfl

/-- The rotated and scaled keys. -/
theorem k_at (b : Fin 4) (i : Fin 4096) (h : Fin 12) (d : Fin 128) :
    A_main_v50 a0 a1 a2 (ix4 b i h d) = (Spec.k A b h i.val d : EReal) := by
  unfold A_main_v50 A_main_v40 A_main_v39 A_main_v38 A_main_v37 A_main_v36 A_main_v35 A_main_v34 A_main_v33 A_main_v32 A_main_v31 A_main_v30 A_main_v29 A_main_v28 A_main_v27 A_main_v26 A_main_v25 A_main_v24 A_main_v4 A_main_v3 A_main_v0 K_main_v49 K_main_cst_1
  pointwise
  unfold Spec.k
  rw [ofBits_kscale, EReal.coe_mul]
  refine congrArg (· * (kscale : EReal)) ?_
  have hh := h.isLt
  by_cases hd : d.val < 64
  · rw [dif_pos hd, h_at A b i _ (1536 + 128 * h.val + d.val) (by show 1536 + (h.val * 128 + d.val) = _; omega) (by omega),
      h_at A b i _ (1536 + 128 * h.val + (64 + d.val)) (by show 1536 + (h.val * 128 + (64 + d.val)) = _; omega) (by omega), A.hC, A.hS]
    exact rope_lo A (fun d => A.H b i (1536 + 128 * h.val + d.val)) b i d ⟨64 + d.val, by omega⟩ hd rfl
  · rw [dif_neg hd, h_at A b i _ (1536 + 128 * h.val + (d.val - 64)) (by show 1536 + (h.val * 128 + (d.val - 64)) = _; omega) (by omega),
      h_at A b i _ (1536 + 128 * h.val + d.val) (by show 1536 + (h.val * 128 + (64 + (d.val - 64))) = _; omega) (by omega), A.hC, A.hS]
    have e : (⟨64 + (d.val - 64), by omega⟩ : Fin 128) = d := Fin.ext (by show 64 + (d.val - 64) = d.val; omega)
    rw [e]
    exact rope_hi A (fun d => A.H b i (1536 + 128 * h.val + d.val)) b i d ⟨d.val - 64, by omega⟩ hd rfl

end Cert.Proof.RefVal

end
-- ==== Proof.RefStep.lean ====
/- The chunks of the reference. -/
module

public import proofs.«01_k».proof.Proof.RefVal
public import Idealize.ShloMosaic.Lib.DynamicIndex

@[expose] public section

set_option maxRecDepth 16384

noncomputable section

namespace Cert.Proof.RefStep

open Idealize.ShloMosaic Idealize.SL.Sem
open Cert.ReferenceIdeal Cert.ReferenceIdeal.Gen Cert.ReferenceIdeal.Step Cert.Proof.RealVal Cert.Proof.RefVal

variable {a0 : Vec Ideal (⟨3, ![4, 4096, 11264]⟩ : Shape) .bf16} {a1 a2 : Vec Ideal (⟨3, ![4, 4096, 128]⟩ : Shape) .f32}
  (A : Spec.Reals a0 a1 a2)

/-! ## The chunks -/

theorem qc_at (b : Fin 4) (n r : Fin 64) (h : Fin 12) (d : Fin 128) :
    A_main_v51 a0 a1 a2 (ix5 b n r h d) = (Spec.q A b h (n.val * 64 + r.val) d : EReal) := by
  unfold A_main_v51
  pointwise
  exact q_at A b ⟨n.val * 64 + r.val, by omega⟩ h d

theorem kc_at (b : Fin 4) (n r : Fin 64) (h : Fin 12) (d : Fin 128) :
    A_main_v52 a0 a1 a2 (ix5 b n r h d) = (Spec.k A b h (n.val * 64 + r.val) d : EReal) := by
  unfold A_main_v52
  pointwise
  exact k_at A b ⟨n.val * 64 + r.val, by omega⟩ h d

theorem vc_at (b : Fin 4) (n r : Fin 64) (h : Fin 12) (w : Fin 256) :
    A_main_v53 a0 a1 a2 (ix5 b n r h w) = (Spec.v A b h (n.val * 64 + r.val) w : EReal) := by
  unfold A_main_v53 A_main_v6 A_main_v5 A_main_v0
  pointwise
  have hh := h.isLt
  exact h_at A b ⟨n.val * 64 + r.val, by omega⟩ _ (3072 + 256 * h.val + w.val)
    (by show 3072 + (h.val * 256 + w.val) = _; omega) (by omega)

/-- A chunk's scores, -/
theorem scores_read (x y : FVec Ideal S4x64x64x12x128 .f32) (b : Fin 4) (n : Fin 64) (h : Fin 12) (i j : Fin 64) :
    (Host.dotGeneral (F := Ideal) (φ₁ := .f32) (φ₂ := .f32) dot_S4x64x64x12x128_S4x64x64x12x128_S4x64x12x64x64_4_4_2_2_013_013 none x y : FVec Ideal S4x64x12x64x64 .f32) (ix5 b n h i j) =
      ∑ d : Fin 128, x (ix5 b n i h d) * y (ix5 b n j h d) := by
  pointwise

/-- the decays between its rows, -/
theorem decays_read (x : FVec Ideal S12x64x64 .f32) (b : Fin 4) (n : Fin 64) (h : Fin 12) (i j : Fin 64) :
    (broadcastInDim S4x64x12x64x64 ![0, 1, 2, 3, 4] bcast_S1x1x12x64x64_S4x64x12x64x64_0_1_2_3_4
      (broadcastInDim S1x1x12x64x64 ![2, 3, 4] bcast_S12x64x64_S1x1x12x64x64_2_3_4 x) : Vec Ideal S4x64x12x64x64 .f32) (ix5 b n h i j) = x (ix3 h i j) := by
  pointwise

/-- and the values they weigh. -/
theorem mix_read (x : FVec Ideal S4x64x64x12x256 .f32) (y : FVec Ideal S4x64x12x64x64 .f32) (b : Fin 4) (n : Fin 64) (h : Fin 12) (w : Fin 256) (r : Fin 64) :
    (Host.dotGeneral (F := Ideal) (φ₁ := .f32) (φ₂ := .f32) dot_S4x64x64x12x256_S4x64x12x64x64_S4x64x12x256x64_2_4_4_3_013_012 none x y : FVec Ideal S4x64x12x256x64 .f32) (ix5 b n h w r) =
      ∑ j : Fin 64, x (ix5 b n j h w) * y (ix5 b n h r j) := by
  pointwise

theorem inner_read (x : FVec Ideal S4x64x12x256x64 .f32) (b : Fin 4) (n r : Fin 64) (h : Fin 12) (w : Fin 256) :
    transpose S4x64x64x12x256 [0, 1, 4, 2, 3] x transposes_S4x64x12x256x64_S4x64x64x12x256_0_1_4_2_3 (ix5 b n r h w) = x (ix5 b n h w r) := by
  pointwise

end Cert.Proof.RefStep

end
-- ==== Proof.RefXs.lean ====
/- What the loop of the reference is handed, chunk by chunk. -/
module

public import proofs.«01_k».proof.Proof.RefStep
public import Idealize.ShloMosaic.Lib.DynamicIndex

@[expose] public section

set_option maxRecDepth 16384

noncomputable section

namespace Cert.Proof.RefXs

open Idealize.ShloMosaic Idealize.SL.Sem
open Cert.ReferenceIdeal Cert.ReferenceIdeal.Gen Cert.ReferenceIdeal.Step Cert.Proof.RealVal Cert.Proof.RefVal Cert.Proof.RefStep

variable {a0 : Vec Ideal (⟨3, ![4, 4096, 11264]⟩ : Shape) .bf16} {a1 a2 : Vec Ideal (⟨3, ![4, 4096, 128]⟩ : Shape) .f32}
  (A : Spec.Reals a0 a1 a2)

theorem mul_read {S : Shape} (x y : FVec Ideal S .f32) (i : S.Idx) : mulf x y i = x i * y i := rfl

theorem swap128 (x : FVec Ideal S4x64x64x12x128 .f32) (n : Fin 64) (b : Fin 4) (r : Fin 64) (h : Fin 12) (d : Fin 128) :
    transpose S64x4x64x12x128 [1, 0, 2, 3, 4] x transposes_S4x64x64x12x128_S64x4x64x12x128_1_0_2_3_4 (ix5 n b r h d) = x (ix5 b n r h d) := by
  pointwise

theorem swap256 (x : FVec Ideal S4x64x64x12x256 .f32) (n : Fin 64) (b : Fin 4) (r : Fin 64) (h : Fin 12) (d : Fin 256) :
    transpose S64x4x64x12x256 [1, 0, 2, 3, 4] x transposes_S4x64x64x12x256_S64x4x64x12x256_1_0_2_3_4 (ix5 n b r h d) = x (ix5 b n r h d) := by
  pointwise

/-- A decayed score. -/
theorem score_at (b : Fin 4) (n : Fin 64) (h : Fin 12) (i j : Fin 64) :
    A_main_v75 a0 a1 a2 (ix5 b n h i j) =
      (((∑ d, Spec.q A b h (n.val * 64 + i.val) d * Spec.k A b h (n.val * 64 + j.val) d)
        * (if j.val ≤ i.val then Real.exp (Spec.gam h * ((i.val : ℝ) - j.val)) else 0) : ℝ) : EReal) := by
  unfold A_main_v75 A_main_v72 K_main_v74 K_main_v73
  refine (mul_read _ _ _).trans ?_
  rw [EReal.coe_mul, coe_sum]
  refine congrArg₂ (· * ·) ((scores_read _ _ b n h i j).trans (Finset.sum_congr rfl fun d _ => ?_)) ((decays_read _ b n h i j).trans (intra_at h i j))
  exact (congrArg₂ (· * ·) (qc_at A b n i h d) (kc_at A b n j h d)).trans (EReal.coe_mul _ _).symm

/-- A chunk's own part. -/
theorem inner_at (b : Fin 4) (n r : Fin 64) (h : Fin 12) (w : Fin 256) :
    A_main_v77 a0 a1 a2 (ix5 b n r h w) =
      ((∑ r' : Fin 64, ((∑ d, Spec.q A b h (n.val * 64 + r.val) d * Spec.k A b h (n.val * 64 + r'.val) d)
        * (if r'.val ≤ r.val then Real.exp (Spec.gam h * ((r.val : ℝ) - r'.val)) else 0)) * Spec.v A b h (n.val * 64 + r'.val) w : ℝ) : EReal) := by
  unfold A_main_v77
  rw [inner_read]
  unfold A_main_v76
  rw [mix_read, coe_sum]
  refine Finset.sum_congr rfl fun r' _ => ?_
  rw [vc_at A, score_at A, mul_comm, ← EReal.coe_mul]

theorem xq_at (n : Fin 64) (b : Fin 4) (r : Fin 64) (h : Fin 12) (d : Fin 128) :
    A_main_v98 a0 a1 a2 (ix5 n b r h d) = (Spec.q A b h (n.val * 64 + r.val) d : EReal) := by
  unfold A_main_v98
  exact (swap128 _ n b r h d).trans (qc_at A b n r h d)

theorem xk_at (n : Fin 64) (b : Fin 4) (r : Fin 64) (h : Fin 12) (d : Fin 128) :
    A_main_v99 a0 a1 a2 (ix5 n b r h d) = (Spec.k A b h (n.val * 64 + r.val) d : EReal) := by
  unfold A_main_v99
  exact (swap128 _ n b r h d).trans (kc_at A b n r h d)

theorem xv_at (n : Fin 64) (b : Fin 4) (r : Fin 64) (h : Fin 12) (w : Fin 256) :
    A_main_v100 a0 a1 a2 (ix5 n b r h w) = (Spec.v A b h (n.val * 64 + r.val) w : EReal) := by
  unfold A_main_v100
  exact (swap256 _ n b r h w).trans (vc_at A b n r h w)

theorem xi_at (n : Fin 64) (b : Fin 4) (r : Fin 64) (h : Fin 12) (w : Fin 256) :
    A_main_v101 a0 a1 a2 (ix5 n b r h w) =
      ((∑ r' : Fin 64, ((∑ d, Spec.q A b h (n.val * 64 + r.val) d * Spec.k A b h (n.val * 64 + r'.val) d)
        * (if r'.val ≤ r.val then Real.exp (Spec.gam h * ((r.val : ℝ) - r'.val)) else 0)) * Spec.v A b h (n.val * 64 + r'.val) w : ℝ) : EReal) := by
  unfold A_main_v101
  exact (swap256 _ n b r h w).trans (inner_at A b n r h w)

end Cert.Proof.RefXs

end
-- ==== Proof.RefTrip.lean ====
/- One trip of the reference's loop over its chunks. -/
module

public import proofs.«01_k».proof.Proof.RefStep
public import Idealize.ShloMosaic.Lib.DynamicIndex

@[expose] public section

set_option maxRecDepth 16384

noncomputable section

namespace Cert.Proof.RefTrip

open Idealize.ShloMosaic Idealize.SL.Sem
open Cert.ReferenceIdeal Cert.ReferenceIdeal.Gen Cert.ReferenceIdeal.Step Cert.Proof.RealVal Cert.Proof.RefVal

/-! ## One trip -/

/-- The starts of a trip's slices. -/
theorem starts (n : Fin 64) (k : Fin 5) :
    ((![(constantI S_ 32 (BitVec.ofNat 32 n.val)), (constantI S_ 32 0#32), (constantI S_ 32 0#32), (constantI S_ 32 0#32),
      (constantI S_ 32 0#32)] : Fin 5 → IVec S_ 32) k (Shape.Idx.first h_S_)).toInt = ((![n.val, 0, 0, 0, 0] : Fin 5 → ℕ) k : ℤ) := by
  fin_cases k
  · exact toInt_ofNat_of_lt (by omega)
  all_goals rfl

theorem fits128 (n : Fin 64) : S64x4x64x12x128.Slices ![n.val, 0, 0, 0, 0] S1x4x64x12x128 :=
  ⟨rfl, fun a => by fin_cases a <;> first | (show n.val + 1 ≤ 64; omega) | (exact Nat.le_of_eq (Nat.zero_add _))⟩

theorem fits256 (n : Fin 64) : S64x4x64x12x256.Slices ![n.val, 0, 0, 0, 0] S1x4x64x12x256 :=
  ⟨rfl, fun a => by fin_cases a <;> first | (show n.val + 1 ≤ 64; omega) | (exact Nat.le_of_eq (Nat.zero_add _))⟩

variable (n : Fin 64) (s : State Ideal) (b : Fin 4) (r : Fin 64) (h : Fin 12)

theorem b5_at (d : Fin 128) : b5 n.val s (ix4 b r h d) = s.main_v103_0 (ix5 n b r h d) := by
  unfold b5 b4
  rw [Host.dynamicSlice_eq_extractStridedSlice _ _ _ ![n.val, 0, 0, 0, 0] _ (fits128 n) (starts n)]
  pointwise
  try rfl

theorem b11_at (d : Fin 128) : b11 n.val s (ix4 b r h d) = s.main_v103_1 (ix5 n b r h d) := by
  unfold b11 b10
  rw [Host.dynamicSlice_eq_extractStridedSlice _ _ _ ![n.val, 0, 0, 0, 0] _ (fits128 n) (starts n)]
  pointwise
  try rfl

theorem b17_at (w : Fin 256) : b17 n.val s (ix4 b r h w) = s.main_v103_2 (ix5 n b r h w) := by
  unfold b17 b16
  rw [Host.dynamicSlice_eq_extractStridedSlice _ _ _ ![n.val, 0, 0, 0, 0] _ (fits256 n) (starts n)]
  pointwise
  try rfl

theorem b23_at (w : Fin 256) : b23 n.val s (ix4 b r h w) = s.main_v103_3 (ix5 n b r h w) := by
  unfold b23 b22
  rw [Host.dynamicSlice_eq_extractStridedSlice _ _ _ ![n.val, 0, 0, 0, 0] _ (fits256 n) (starts n)]
  pointwise
  try rfl

theorem b43_at (n' : Fin 64) (w : Fin 256) :
    b43 n.val s (ix5 n' b r h w) = if n' = n then b37 n.val s (ix4 b r h w) else s.main_v103_9 (ix5 n' b r h w) := by
  unfold b43 b38 b39 b40 b41 b42
  have cs : ∀ (ht) (a : Fin 5), Host.clampedStart S64x4x64x12x256 S1x4x64x12x256 ht (fun k => ((![(constantI S_ 32 (BitVec.ofNat 32 n.val)),
      (constantI S_ 32 0#32), (constantI S_ 32 0#32), (constantI S_ 32 0#32), (constantI S_ 32 0#32)] : Fin 5 → IVec S_ 32) k
        (Shape.Idx.first h_S_)).toInt) a = (![n.val, 0, 0, 0, 0] : Fin 5 → ℕ) a := fun ht a =>
    Host.clampedStart_of_le ht _ a _ (starts n a) ((fits256 n).2 a)
  pointwise
  simp only [cs]
  by_cases e : n' = n
  · rw [dif_pos ⟨⟨by rw [e]; exact le_refl _, by rw [e]; exact Nat.lt_succ_self _⟩, Nat.zero_le _, Nat.zero_le _, Nat.zero_le _, Nat.zero_le _⟩,
      if_pos e]
    rfl
  · rw [dif_neg fun H => e (Fin.ext (by
      have h1 : n.val ≤ n'.val := H.1.1
      have h2 : n'.val < n.val + 1 := H.1.2
      omega)), if_neg e]

theorem b28_at (w : Fin 256) : b28 n.val s (ix4 b r h w) =
    (∑ d : Fin 128, s.main_v103_8 (ix4 b h d w) * s.main_v103_0 (ix5 n b r h d)) * K_main_v85 (F := Ideal) (ix2 r h) := by
  unfold b28 b27 b26 b25 b24
  pointwise
  simp only [b5_at]

theorem b36_at (d : Fin 128) (w : Fin 256) : b36 n.val s (ix4 b h d w) =
    s.main_v103_8 (ix4 b h d w) * K_main_v96 (F := Ideal) (ix1 h)
      + ∑ r : Fin 64, (s.main_v103_1 (ix5 n b r h d) * K_main_v93 (F := Ideal) (ix2 r h)) * s.main_v103_2 (ix5 n b r h w) := by
  unfold b36 b35 b34 b33 b32 b31 b30 b29
  pointwise
  simp only [b11_at, b17_at]

theorem b37_at (w : Fin 256) : b37 n.val s (ix4 b r h w) = s.main_v103_3 (ix5 n b r h w) + b28 n.val s (ix4 b r h w) := by
  unfold b37
  pointwise
  rw [b23_at]

end Cert.Proof.RefTrip

end
-- ==== Proof.RefLoop.lean ====
/- The reference's loop, over the reals: after `n` trips its state is the state before chunk `n` of 64 rows, and its rows are
   rows of the retention; and the result is their norm. -/
module

public import proofs.«01_k».proof.Proof.RefXs
public import proofs.«01_k».proof.Proof.RefTrip

@[expose] public section

set_option maxRecDepth 16384

noncomputable section

namespace Cert.Proof.RefLoop

open Idealize.ShloMosaic Idealize.SL.Sem
open Cert.ReferenceIdeal Cert.ReferenceIdeal.Gen Cert.ReferenceIdeal.Step Cert.Proof.RealVal Cert.Proof.RefVal Cert.Proof.RefXs Cert.Proof.RefTrip

/-- The loop's states. -/
def it (s : State Ideal) : ℕ → State Ideal
  | 0 => s
  | n + 1 => step n (it s n)

variable {a0 : Vec Ideal (⟨3, ![4, 4096, 11264]⟩ : Shape) .bf16} {a1 a2 : Vec Ideal (⟨3, ![4, 4096, 128]⟩ : Shape) .f32}
  (A : Spec.Reals a0 a1 a2)

/-- What the loop is handed stays as it was. -/
theorem it_xs (s : State Ideal) (n : ℕ) : (it s n).main_v103_0 = s.main_v103_0 ∧ (it s n).main_v103_1 = s.main_v103_1
    ∧ (it s n).main_v103_2 = s.main_v103_2 ∧ (it s n).main_v103_3 = s.main_v103_3 := by
  induction n with
  | zero => exact ⟨rfl, rfl, rfl, rfl⟩
  | succ n ih => exact ih

/-- The state before each chunk. -/
theorem state_at (n : ℕ) : n ≤ 64 → ∀ (b : Fin 4) (h : Fin 12) (d : Fin 128) (w : Fin 256),
    (it (init a0 a1 a2) n).main_v103_8 (ix4 b h d w) = (Spec.state A b h 64 n d w : EReal) := by
  induction n with
  | zero =>
    intro _ b h d w
    unfold Spec.state
    rw [Ret.state_zero]
    exact Ideal.ofBits_zero_f32
  | succ n ih =>
    intro hn b h d w
    obtain ⟨e0, e1, e2, e3⟩ := it_xs (init a0 a1 a2) n
    refine (congrFun (step_main_v103_8 n (it (init a0 a1 a2) n)) _).trans ?_
    refine (b36_at ⟨n, by omega⟩ (it (init a0 a1 a2) n) b h d w).trans ?_
    rw [ih (by omega) b h d w, cdecay_at, e1, e2]
    unfold Spec.state
    rw [Ret.state_succ, EReal.coe_add, EReal.coe_mul, coe_sum]
    refine congrArg (_ + ·) (Finset.sum_congr rfl fun r _ => ?_)
    rw [kdecay_at, EReal.coe_mul, EReal.coe_mul]
    exact congrArg₂ (· * ·) (congrArg (· * _) (xk_at A ⟨n, by omega⟩ b r h d)) (xv_at A ⟨n, by omega⟩ b r h w)

/-- The rows of the chunks done. -/
theorem rows_at (n : ℕ) : n ≤ 64 → ∀ (n' : Fin 64), n'.val < n → ∀ (b : Fin 4) (r : Fin 64) (h : Fin 12) (w : Fin 256),
    (it (init a0 a1 a2) n).main_v103_9 (ix5 n' b r h w) = (Spec.out A b h (n'.val * 64 + r.val) w : EReal) := by
  induction n with
  | zero => intro _ n' hn'; omega
  | succ n ih =>
    intro hn n' hn' b r h w
    obtain ⟨e0, e1, e2, e3⟩ := it_xs (init a0 a1 a2) n
    refine (congrFun (step_main_v103_9 n (it (init a0 a1 a2) n)) _).trans ?_
    refine (b43_at ⟨n, by omega⟩ (it (init a0 a1 a2) n) b r h n' w).trans ?_
    by_cases e : n' = ⟨n, by omega⟩
    · rw [if_pos e, e]
      refine (b37_at ⟨n, by omega⟩ (it (init a0 a1 a2) n) b r h w).trans ?_
      rw [e3, b28_at ⟨n, by omega⟩, e0, qdecay_at]
      unfold Spec.out
      rw [Ret.out_chunk, EReal.coe_add]
      refine congrArg₂ (· + ·) (xi_at A ⟨n, by omega⟩ b r h w) ?_
      have hd : ∀ d : Fin 128, (it (init a0 a1 a2) n).main_v103_8 (ix4 b h d w) * (init a0 a1 a2).main_v103_0 (ix5 ⟨n, by omega⟩ b r h d)
          = ((Spec.state A b h 64 n d w * Spec.q A b h (n * 64 + r.val) d : ℝ) : EReal) := fun d => by
        rw [EReal.coe_mul]
        exact congrArg₂ (· * ·) (state_at A n (by omega) b h d w) (xq_at A ⟨n, by omega⟩ b r h d)
      rw [Finset.sum_congr rfl fun d _ => hd d, ← coe_sum, ← EReal.coe_mul, Finset.sum_mul]
      refine congrArg _ (Finset.sum_congr rfl fun d _ => ?_)
      unfold Spec.state
      ring
    · rw [if_neg e]
      exact ih (by omega) n' (by
        have : n'.val ≠ n := fun h => e (Fin.ext h)
        omega) b r h w

/-- The result, of the loop's rows: their norm. -/
theorem tail_read (s : State Ideal) (g : Vec Ideal (⟨1, ![3072]⟩ : Shape) .f32) (b : Fin 4) (i : Fin 4096) (n : Fin 3072) :
    R_main_v128 s g (ix3 b i n) = Spec.normRow
      (fun y => s.main_v103_9 (ix5 (⟨i.val / 64, by omega⟩ : Fin 64) b (⟨i.val % 64, Nat.mod_lt _ (by norm_num)⟩ : Fin 64)
        (⟨n.val / 256, by omega⟩ : Fin 12) y)) (g (ix1 n)) ⟨n.val % 256, Nat.mod_lt _ (by norm_num)⟩ := by
  unfold R_main_v128
  pointwise
  rfl

/-- The reference's result. -/
theorem value (g : Vec Ideal (⟨1, ![3072]⟩ : Shape) .f32) :
    R_main_v128 (it (init a0 a1 a2) 64) g = Spec.G A g := by
  funext x
  rw [eq_ix3 x]
  refine (tail_read _ g (x 0) (x 1) (x 2)).trans ?_
  refine (congrArg (fun o => Spec.normRow o _ _) (funext fun y => ?_)).trans
    (Spec.G_eq A g _ (x 0) (x 1).val (x 2) ⟨(x 2).val / 256, by have : (x 2).val < 3072 := (x 2).isLt; omega⟩
      ⟨(x 2).val % 256, Nat.mod_lt _ (by norm_num)⟩ rfl rfl rfl rfl rfl).symm
  refine (rows_at A 64 (le_refl _) _ (by
    have : (x 1).val < 4096 := (x 1).isLt
    show (x 1).val / 64 < 64; omega) _ _ _ _).trans ?_
  refine congrArg (fun i => ((Spec.out A (x 0) _ i y : ℝ) : EReal)) ?_
  show (x 1).val / 64 * 64 + (x 1).val % 64 = (x 1).val
  omega

end Cert.Proof.RefLoop

end
-- ==== Proof.PreReal.lean ====
/- What the precondition says of the arrays, element by element: the columns of queries, keys and values, the cosines and the
   sines are real numbers, and the halves of a row of either table hold the same angles. -/
module

public import proofs.«01_k».proof.Defs
public import proofs.«01_k».proof.Proof.Gen.Pre_rotary_tables
public import proofs.«01_k».proof.Proof.Spec
public import Idealize.ShloMosaic.Lib.ReduceAll
public import Idealize.ShloMosaic.Lib.StableHlo.Predicate

@[expose] public section

set_option maxRecDepth 16384

noncomputable section

namespace Cert.Proof.PreReal

open Idealize.ShloMosaic Cert.Proof.RealVal Cert.Pre_rotary_tables

instance : Subsingleton (⟨0, ![]⟩ : Shape).Idx := ⟨fun a b => funext fun i => i.elim0⟩

theorem top_const : Ideal.ofBits .f32 0x7F800000#32 = ⊤ := by
  simp [Ideal.ofBits, Ideal.ieee]

theorem one_of_ofBool {b : Bool} (h : BitVec.ofBool b = 1#1) : b = true := by
  cases b
  · exact absurd h (by decide)
  · rfl

/-- A number whose size is less than infinity is a real. -/
theorem real_of_lt (x : Ideal .f32)
    (h : FloatOps.cmpf .olt (max (x : EReal) (-x) : EReal) (FloatOps.ofBits (F := Ideal) .f32 0x7F800000#32) = 1#1) :
    (x : EReal) = ((x : EReal).toReal : EReal) := by
  have h1 : BitVec.ofBool (decide (max (x : EReal) (-x) < Ideal.ofBits .f32 0x7F800000#32)) = 1#1 := h
  replace h1 := of_decide_eq_true (one_of_ofBool h1)
  rw [top_const] at h1
  refine (EReal.coe_toReal ?_ ?_).symm
  · rintro rfl
    simp at h1
  · rintro rfl
    simp at h1

theorem eq_of_oeq (x y : Ideal .f32) (h : FloatOps.cmpf .oeq x y = 1#1) : x = y := by
  have h1 : BitVec.ofBool (decide ((x : EReal) = y)) = 1#1 := h
  exact of_decide_eq_true (one_of_ofBool h1)

variable (a0 : Vec Ideal S4x4096x11264 .bf16) (a1 a2 : Vec Ideal S4x4096x128 .f32) (a3 : Vec Ideal S3072 .f32)

theorem low (a : Vec Ideal S4x4096x128 .f32) (b : Fin 4) (i : Fin 4096) (d : Fin 128) (hd : d.val < 64) :
    extractStridedSlice S4x4096x64 ![0, 0, 0] a Facts.slices_S4x4096x128_S4x4096x64_0_0_0 (ix3 b i ⟨d.val, hd⟩) =
      a (ix3 b i d) := by
  refine congrArg a (funext fun a => Fin.ext ?_)
  fin_cases a <;> simp

theorem high (a : Vec Ideal S4x4096x128 .f32) (b : Fin 4) (i : Fin 4096) (d : Fin 128) (hd : d.val < 64) :
    extractStridedSlice S4x4096x64 ![0, 0, 64] a Facts.slices_S4x4096x128_S4x4096x64_0_0_64 (ix3 b i ⟨d.val, hd⟩) =
      a (ix3 b i (pairLane d)) := by
  refine congrArg a (funext fun a => Fin.ext ?_)
  fin_cases a
  · simp
  · simp
  · show 64 + d.val = (d.val + 64) % 128
    omega

/-- The real numbers that the arrays hold. -/
theorem reals (hp : Cert.Pre_rotary_tables.fn (F := Ideal) a0 a1 a2 a3 = fun _ => 1#1) :
    Nonempty (Spec.Reals a0 a1 a2) := by
  have h := congrFun hp ix0
  unfold Cert.Pre_rotary_tables.fn fn_part1 at h
  simp only [andi, IntOp.andi_eq_one] at h
  obtain ⟨⟨⟨⟨h0, h1⟩, h2⟩, h3⟩, h4⟩ := h
  have f0 := Host.reduce_andi_all _ _ _ _ _ h0
  have f1 := Host.reduce_andi_all _ _ _ _ _ h1
  have f2 := Host.reduce_andi_all _ _ _ _ _ h2
  have f3 := Host.reduce_andi_all _ _ _ _ _ h3
  have f4 := Host.reduce_andi_all _ _ _ _ _ h4
  have e0 : ∀ (b : Fin 4) (i : Fin 4096) (n : Fin 11264), n.val < 6144 →
      a0 (ix3 b i n) = ((a0 (ix3 b i n) : EReal).toReal : EReal) := fun b i n hn => by
    have hi : extractStridedSlice S4x4096x6144 ![0, 0, 0] a0
        Facts.slices_S4x4096x11264_S4x4096x6144_0_0_0 (ix3 b i ⟨n.val, hn⟩) = a0 (ix3 b i n) := by
      refine congrArg a0 (funext fun a => Fin.ext ?_)
      fin_cases a <;> simp
    have hx := f0 (ix3 b i ⟨n.val, hn⟩)
    simp only [cmpf, Host.absf, extf, hi] at hx
    exact real_of_lt (a0 (ix3 b i n)) hx
  have e1 : ∀ (b : Fin 4) (i : Fin 4096) (d : Fin 128), a1 (ix3 b i d) = ((a1 (ix3 b i d) : EReal).toReal : EReal) :=
    fun b i d => real_of_lt (a1 (ix3 b i d)) (f1 (ix3 b i d))
  have e2 : ∀ (b : Fin 4) (i : Fin 4096) (d : Fin 128), a2 (ix3 b i d) = ((a2 (ix3 b i d) : EReal).toReal : EReal) :=
    fun b i d => real_of_lt (a2 (ix3 b i d)) (f2 (ix3 b i d))
  refine ⟨{
    H := fun b i n => if hi : i < 4096 ∧ n < 11264 then (a0 (ix3 b ⟨i, hi.1⟩ ⟨n, hi.2⟩) : EReal).toReal else 0
    C := fun b i d => if hi : i < 4096 then (a1 (ix3 b ⟨i, hi⟩ d) : EReal).toReal else 0
    S := fun b i d => if hi : i < 4096 then (a2 (ix3 b ⟨i, hi⟩ d) : EReal).toReal else 0
    hH := fun b i n hn => by rw [dif_pos ⟨i.isLt, n.isLt⟩]; exact e0 b i n hn
    hC := fun b i d => by rw [dif_pos i.isLt]; exact e1 b i d
    hS := fun b i d => by rw [dif_pos i.isLt]; exact e2 b i d
    hCC := fun b i d hd => ?_
    hSS := fun b i d hd => ?_ }⟩
  · rw [dif_pos i.isLt, dif_pos i.isLt]
    have hx := eq_of_oeq (extractStridedSlice S4x4096x64 ![0, 0, 0] a1
      Facts.slices_S4x4096x128_S4x4096x64_0_0_0 (ix3 b i ⟨d.val, hd⟩)) _ (f3 (ix3 b i ⟨d.val, hd⟩))
    rw [low a1 b i d hd, high a1 b i d hd] at hx
    exact congrArg EReal.toReal hx
  · rw [dif_pos i.isLt, dif_pos i.isLt]
    have hx := eq_of_oeq (extractStridedSlice S4x4096x64 ![0, 0, 0] a2
      Facts.slices_S4x4096x128_S4x4096x64_0_0_0 (ix3 b i ⟨d.val, hd⟩))
      (-(extractStridedSlice S4x4096x64 ![0, 0, 64] a2
        Facts.slices_S4x4096x128_S4x4096x64_0_0_64 (ix3 b i ⟨d.val, hd⟩) : EReal)) (f4 (ix3 b i ⟨d.val, hd⟩))
    rw [low a2 b i d hd, high a2 b i d hd, e2 b i (pairLane d), ← EReal.coe_neg] at hx
    exact congrArg EReal.toReal hx

end Cert.Proof.PreReal

end
-- ==== Proof.RetIn.lean ====
/- The input projection of a retention layer: every block of the array is the product of the block's rows and columns, and the
   reference's array is the product. -/
module

public import proofs.«01_k».proof.Defs
public import proofs.«01_k».proof.Proof.Gen.RetInIdeal.Value
public import proofs.«01_k».proof.Proof.Gen.RefRetInIdeal
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Proof.RetIn

open Idealize.ShloMosaic Idealize.ShloMosaic.TcCoe Idealize.SL.Sem
open Cert.RetInIdeal Cert.RetInIdeal.Gen

variable (m : (ℓ : Loc nD τ sig) → Buf (Elt Ideal) ℓ) (c : Dev nD)

theorem idx0 : ∀ t : Fin cfg0.N, win0_0.index t = ![t.val % 8, 0] := (by decide +kernel : ∀ t : Fin grid0.N, _)
theorem idx1 : ∀ t : Fin cfg0.N, win0_1.index t = ![1, 0, t.val / 8] := (by decide +kernel : ∀ t : Fin grid0.N, _)
theorem idx2 : ∀ t : Fin cfg0.N, win0_2.index t = ![t.val % 8, t.val / 8] := (by decide +kernel : ∀ t : Fin grid0.N, _)

/-- The block of weights that a column of the grid keeps, -/
def wAt (t : Fin cfg0.N) : Vec Ideal S2048x1024 .bf16 := k0_pay1 (iblk m c 1 t)

/-- written at the column's first point -/
theorem kept_first (t : Fin cfg0.N) (h0 : t.val % 8 = 0) (i : S2048x1024.Idx) :
    (outsAt0 m c t.val t.isLt).2 i = wAt m c t i := by
  rw [outsAt0_A m c t h0]
  frame_out
  rfl

/-- and held at the others, -/
theorem kept_next (t : Fin cfg0.N) (h0 : ¬t.val % 8 = 0) (i : S2048x1024.Idx) :
    (outsAt0 m c t.val t.isLt).2 i = (outsAt0 m c (t.val - 1) (by omega)).2 i := by
  rw [outsAt0_B m c t h0]
  rfl

/-- read from the argument. -/
theorem w_read (t : Fin cfg0.N) (k : Fin 2048) (n : Fin 1024) :
    wAt m c t (ix2 k n) = m ((c : Thread nD τ).loc main_arg1) (ix3 (1 : Fin 2) k
      (⟨t.val / 8 * 1024 + n.val, by have := t.isLt; have : cfg0.N = 88 := rfl; omega⟩ : Fin 11264)) := by
  unfold wAt k0_pay1
  pointwise
  blk_ext [iblk, V_main_arg1, idx1]

/-- The weights are those of the column at each of its points. -/
theorem kept (t : Fin cfg0.N) (k : Fin 2048) (n : Fin 1024) :
    (outsAt0 m c t.val t.isLt).2 (ix2 k n) = m ((c : Thread nD τ).loc main_arg1) (ix3 (1 : Fin 2) k
      (⟨t.val / 8 * 1024 + n.val, by have := t.isLt; have : cfg0.N = 88 := rfl; omega⟩ : Fin 11264)) := by
  refine (Pipeline.eq_of_write_hold_apply (fun n h => (outsAt0 m c n h).2) 8 (wAt m c) (kept_first m c) (kept_next m c)
    t (ix2 k n)).trans ((w_read m c _ k n).trans (congrArg (fun z => m ((c : Thread nD τ).loc main_arg1) (ix3 (1 : Fin 2) k z)) (Fin.ext ?_)))
  show 8 * (t.val / 8) / 8 * 1024 + n.val = t.val / 8 * 1024 + n.val
  omega

/-- A point's block of rows. -/
def xAt (t : Fin cfg0.N) : Vec Ideal S2048x2048 .bf16 := iblk m c 0 t

/-- A row of it. -/
theorem x_read (t : Fin cfg0.N) (r : Fin 2048) (k : Fin 2048) :
    xAt m c t (ix2 r k) = m ((c : Thread nD τ).loc main_arg0) (ix3
      (⟨(t.val % 8 * 2048 + r.val) / 4096, by omega⟩ : Fin 4) (⟨(t.val % 8 * 2048 + r.val) % 4096, by omega⟩ : Fin 4096) k) := by
  unfold xAt
  blk_simp [iblk]
  entry_read
  pointwise
  blk_ext [idx0]

theorem prod_at (x : Vec Ideal S2048x2048 .bf16) (w : Vec Ideal S2048x1024 .bf16) (r : Fin 2048) (n : Fin 1024) :
    k0_pay2 x w (ix2 r n) = ∑ k : Fin 2048, (x (ix2 r k) : EReal) * w (ix2 k n) := by
  unfold k0_pay2
  pointwise

/-- A point's block is its rows by the weights it has. -/
theorem out_at (t : Fin cfg0.N) (r : Fin 2048) (n : Fin 1024) :
    (outsAt0 m c t.val t.isLt).1 (ix2 r n) =
      ∑ k : Fin 2048, (xAt m c t (ix2 r k) : EReal) * (outsAt0 m c t.val t.isLt).2 (ix2 k n) := by
  by_cases h0 : t.val % 8 = 0
  · rw [outsAt0_A m c t h0]
    frame_out
    exact prod_at _ _ r n
  · rw [outsAt0_B m c t h0]
    frame_out
    simp only [read_unread_whole]
    exact prod_at _ _ r n

/-- The projection. -/
def G (x : Vec Ideal (⟨3, ![4, 4096, 2048]⟩ : Shape) .f32) (w : Vec Ideal (⟨3, ![2, 2048, 11264]⟩ : Shape) .f32) :
    Vec Ideal (⟨2, ![16384, 11264]⟩ : Shape) .bf16 := fun y =>
  ∑ k : Fin 2048, (x (ix3 (⟨(y 0).val / 4096, by have : (y 0).val < 16384 := (y 0).isLt; omega⟩ : Fin 4)
    (⟨(y 0).val % 4096, by omega⟩ : Fin 4096) k) : EReal) * w (ix3 (1 : Fin 2) k (⟨(y 1).val, (y 1).isLt⟩ : Fin 11264))

theorem final : (dats m 0 c).arrAt 2 cfg0.N =
    G (m ((c : Thread nD τ).loc main_arg0)) (m ((c : Thread nD τ).loc main_arg1)) := by
  refine (dats m 0 c).arrAt_eq_of_covers 2 _ (by decide +kernel) fun t hf y => ?_
  blk_simp
  rw [after0_2]
  have hN : t.val < 88 := t.isLt
  obtain ⟨r, n, rfl⟩ : ∃ (r : Fin 2048) (n : Fin 1024), y = ix2 r n := ⟨y 0, y 1, eq_ix2 y⟩
  refine (out_at m c t r n).trans ?_
  unfold G
  refine Finset.sum_congr rfl fun k _ => congrArg₂ _ ((x_read m c t r k).trans ?_) ((kept m c t k n).trans ?_)
  · blk_ext [idx2]
  · blk_ext [idx2]

theorem reference (x : Vec Ideal (⟨3, ![4, 4096, 2048]⟩ : Shape) .f32) (w : Vec Ideal (⟨3, ![2, 2048, 11264]⟩ : Shape) .f32) :
    (shapeCast _ (truncf .bf16 (Host.dotGeneral (F := Ideal) (φ₁ := .f32) (φ₂ := .f32) RefRetInIdeal.dot_S4x4096x2048_S2048x11264_S4x4096x11264_2_0_01_1_n_n none x
      (shapeCast _ (extractStridedSlice RefRetInIdeal.S1x2048x11264 ![1, 0, 0] w RefRetInIdeal.Gen.slices_S2x2048x11264_S1x2048x11264_1_0_0)
        RefRetInIdeal.Gen.shapeCasts_S1x2048x11264_S2048x11264)) RefRetInIdeal.Gen.bitsLt_bf16_f32) RefRetInIdeal.Gen.shapeCasts_S4x4096x11264_S16384x11264 :
      Vec Ideal (⟨2, ![16384, 11264]⟩ : Shape) .bf16) = G x w := by
  funext y
  rw [eq_ix2 y]
  unfold G
  pointwise

end Cert.Proof.RetIn

end
-- ==== Proof.GdnIn.lean ====
/- The input projection of a layer of the other kind: every block of the array is the product of the block's rows and columns, and the
   reference's array is the product. -/
module

public import proofs.«01_k».proof.Defs
public import proofs.«01_k».proof.Proof.Gen.GdnInIdeal.Value
public import proofs.«01_k».proof.Proof.Gen.RefGdnInIdeal
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Proof.GdnIn

open Idealize.ShloMosaic Idealize.ShloMosaic.TcCoe Idealize.SL.Sem
open Cert.GdnInIdeal Cert.GdnInIdeal.Gen

variable (m : (ℓ : Loc nD τ sig) → Buf (Elt Ideal) ℓ) (c : Dev nD)

theorem idx0 : ∀ t : Fin cfg0.N, win0_0.index t = ![t.val % 8, 0] := (by decide +kernel : ∀ t : Fin grid0.N, _)
theorem idx1 : ∀ t : Fin cfg0.N, win0_1.index t = ![1, t.val / 8, 0] := (by decide +kernel : ∀ t : Fin grid0.N, _)
theorem idx2 : ∀ t : Fin cfg0.N, win0_2.index t = ![t.val % 8, t.val / 8] := (by decide +kernel : ∀ t : Fin grid0.N, _)

/-- The block of weights that a column of the grid keeps, -/
def wAt (t : Fin cfg0.N) : Vec Ideal S2048x1024 .bf16 := k0_pay1 (F := Ideal) (X0_1 m c t)

/-- written at the column's first point -/
theorem kept_first (t : Fin cfg0.N) (h0 : t.val % 8 = 0) (i : S2048x1024.Idx) :
    (outsAt0 m c t.val t.isLt).2 i = wAt m c t i := by
  rw [outsAt0_A m c t h0]
  frame_out
  rfl

/-- and held at the others, -/
theorem kept_next (t : Fin cfg0.N) (h0 : ¬t.val % 8 = 0) (i : S2048x1024.Idx) :
    (outsAt0 m c t.val t.isLt).2 i = (outsAt0 m c (t.val - 1) (by omega)).2 i := by
  rw [outsAt0_B m c t h0]
  rfl

/-- read from the argument. -/
theorem w_read (t : Fin cfg0.N) (k : Fin 2048) (n : Fin 1024) :
    wAt m c t (ix2 k n) = m ((c : Thread nD τ).loc main_arg1) (ix3 (1 : Fin 2) k
      (⟨t.val / 8 * 1024 + n.val, by have := t.isLt; have : cfg0.N = 88 := rfl; omega⟩ : Fin 11312)) := by
  unfold wAt k0_pay1
  pointwise
  unfold X0_1 Pipeline.Window.fill
  rw [dif_pos (moved0_1 t _)]
  blk_simp [iblk]
  entry_read
  refine Eq.trans (b := transpose S2x11312x2048 [0, 2, 1] (m ((c : Thread nD τ).loc main_arg1)) transposes_S2x2048x11312_S2x11312x2048_0_2_1
    (ix3 (1 : Fin 2) (⟨t.val / 8 * 1024 + n.val, by have := t.isLt; have : cfg0.N = 88 := rfl; omega⟩ : Fin 11312) k)) ?_ (by pointwise)
  blk_ext [idx1]

/-- The weights are those of the column at each of its points. -/
theorem kept (t : Fin cfg0.N) (k : Fin 2048) (n : Fin 1024) :
    (outsAt0 m c t.val t.isLt).2 (ix2 k n) = m ((c : Thread nD τ).loc main_arg1) (ix3 (1 : Fin 2) k
      (⟨t.val / 8 * 1024 + n.val, by have := t.isLt; have : cfg0.N = 88 := rfl; omega⟩ : Fin 11312)) := by
  refine (Pipeline.eq_of_write_hold_apply (fun n h => (outsAt0 m c n h).2) 8 (wAt m c) (kept_first m c) (kept_next m c)
    t (ix2 k n)).trans ((w_read m c _ k n).trans (congrArg (fun z => m ((c : Thread nD τ).loc main_arg1) (ix3 (1 : Fin 2) k z)) (Fin.ext ?_)))
  show 8 * (t.val / 8) / 8 * 1024 + n.val = t.val / 8 * 1024 + n.val
  omega

/-- A point's block of rows. -/
def xAt (t : Fin cfg0.N) : Vec Ideal S2048x2048 .bf16 := iblk m c 0 t

/-- A row of it. -/
theorem x_read (t : Fin cfg0.N) (r : Fin 2048) (k : Fin 2048) :
    xAt m c t (ix2 r k) = m ((c : Thread nD τ).loc main_arg0) (ix3
      (⟨(t.val % 8 * 2048 + r.val) / 4096, by omega⟩ : Fin 4) (⟨(t.val % 8 * 2048 + r.val) % 4096, by omega⟩ : Fin 4096) k) := by
  unfold xAt
  blk_simp [iblk]
  entry_read
  pointwise
  blk_ext [idx0]

theorem prod_at (x : Vec Ideal S2048x2048 .bf16) (w : Vec Ideal S2048x1024 .bf16) (r : Fin 2048) (n : Fin 1024) :
    k0_pay2 x w (ix2 r n) = ∑ k : Fin 2048, (x (ix2 r k) : EReal) * w (ix2 k n) := by
  unfold k0_pay2
  pointwise

/-- A point's block is its rows by the weights it has. -/
theorem out_at (t : Fin cfg0.N) (r : Fin 2048) (n : Fin 1024) :
    (outsAt0 m c t.val t.isLt).1 (ix2 r n) =
      ∑ k : Fin 2048, (xAt m c t (ix2 r k) : EReal) * (outsAt0 m c t.val t.isLt).2 (ix2 k n) := by
  by_cases h0 : t.val % 8 = 0
  · rw [outsAt0_A m c t h0]
    frame_out
    exact prod_at _ _ r n
  · rw [outsAt0_B m c t h0]
    frame_out
    simp only [read_unread_whole]
    exact prod_at _ _ r n

/-- The projection. -/
def G (x : Vec Ideal (⟨3, ![4, 4096, 2048]⟩ : Shape) .f32) (w : Vec Ideal (⟨3, ![2, 2048, 11312]⟩ : Shape) .f32) :
    Vec Ideal (⟨2, ![16384, 11264]⟩ : Shape) .bf16 := fun y =>
  ∑ k : Fin 2048, (x (ix3 (⟨(y 0).val / 4096, by have : (y 0).val < 16384 := (y 0).isLt; omega⟩ : Fin 4)
    (⟨(y 0).val % 4096, by omega⟩ : Fin 4096) k) : EReal) * w (ix3 (1 : Fin 2) k (⟨(y 1).val, by have : (y 1).val < 11264 := (y 1).isLt; omega⟩ : Fin 11312))

theorem final : (dats m 0 c).arrAt 2 cfg0.N =
    G (m ((c : Thread nD τ).loc main_arg0)) (m ((c : Thread nD τ).loc main_arg1)) := by
  refine (dats m 0 c).arrAt_eq_of_covers 2 _ (by decide +kernel) fun t hf y => ?_
  blk_simp
  rw [after0_2]
  have hN : t.val < 88 := t.isLt
  obtain ⟨r, n, rfl⟩ : ∃ (r : Fin 2048) (n : Fin 1024), y = ix2 r n := ⟨y 0, y 1, eq_ix2 y⟩
  refine (out_at m c t r n).trans ?_
  unfold G
  refine Finset.sum_congr rfl fun k _ => congrArg₂ _ ((x_read m c t r k).trans ?_) ((kept m c t k n).trans ?_)
  · blk_ext [idx2]
  · blk_ext [idx2]

theorem reference (x : Vec Ideal (⟨3, ![4, 4096, 2048]⟩ : Shape) .f32) (w : Vec Ideal (⟨3, ![2, 2048, 11312]⟩ : Shape) .f32) :
    (shapeCast _ (truncf .bf16 (extractStridedSlice RefGdnInIdeal.S4x4096x11264 ![0, 0, 0]
      (Host.dotGeneral (F := Ideal) (φ₁ := .f32) (φ₂ := .f32) RefGdnInIdeal.dot_S4x4096x2048_S2048x11312_S4x4096x11312_2_0_01_1_n_n none x
        (shapeCast _ (extractStridedSlice RefGdnInIdeal.S1x2048x11312 ![1, 0, 0] w RefGdnInIdeal.Gen.slices_S2x2048x11312_S1x2048x11312_1_0_0)
          RefGdnInIdeal.Gen.shapeCasts_S1x2048x11312_S2048x11312))
      RefGdnInIdeal.Gen.slices_S4x4096x11312_S4x4096x11264_0_0_0) RefGdnInIdeal.Gen.bitsLt_bf16_f32)
      RefGdnInIdeal.Gen.shapeCasts_S4x4096x11264_S16384x11264 :
      Vec Ideal (⟨2, ![16384, 11264]⟩ : Shape) .bf16) = G x w := by
  funext y
  rw [eq_ix2 y]
  unfold G
  pointwise

end Cert.Proof.GdnIn

end
-- ==== Proof.MemKv.lean ====
/- The keys and values of the memory for the four layers: every block of the array is the product of the block's rows and columns, and the
   reference's array is the product. -/
module

public import proofs.«01_k».proof.Defs
public import proofs.«01_k».proof.Proof.Gen.MemKvIdeal.Value
public import proofs.«01_k».proof.Proof.Gen.RefMemKvIdeal
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Proof.MemKv

open Idealize.ShloMosaic Idealize.ShloMosaic.TcCoe Idealize.SL.Sem
open Cert.MemKvIdeal Cert.MemKvIdeal.Gen

variable (m : (ℓ : Loc nD τ sig) → Buf (Elt Ideal) ℓ) (c : Dev nD)

theorem idx0 : ∀ t : Fin cfg0.N, win0_0.index t = ![0, 0] := (by decide +kernel : ∀ t : Fin grid0.N, _)
theorem idx1 : ∀ t : Fin cfg0.N, win0_1.index t = ![t.val / 2, 0, t.val % 2] := (by decide +kernel : ∀ t : Fin grid0.N, _)
theorem idx2 : ∀ t : Fin cfg0.N, win0_2.index t = ![0, t.val] := (by decide +kernel : ∀ t : Fin grid0.N, _)

/-- A point's block of weights, -/
def wAt (t : Fin cfg0.N) : Vec Ideal S2048x1024 .bf16 := k0_pay1 (iblk m c 1 t)

/-- read from the argument. -/
theorem w_read (t : Fin cfg0.N) (k : Fin 2048) (n : Fin 1024) :
    wAt m c t (ix2 k n) = m ((c : Thread nD τ).loc main_arg1) (ix3
      (⟨(t.val * 1024 + n.val) / 2048, by have := t.isLt; have : cfg0.N = 8 := rfl; omega⟩ : Fin 4) k
      (⟨(t.val * 1024 + n.val) % 2048, by omega⟩ : Fin 2048)) := by
  unfold wAt k0_pay1
  pointwise
  blk_ext [iblk, V_main_arg1, idx1]

/-- The memory's rows. -/
def xAt (t : Fin cfg0.N) : Vec Ideal S1024x2048 .bf16 := iblk m c 0 t

/-- A row of them. -/
theorem x_read (t : Fin cfg0.N) (r : Fin 1024) (k : Fin 2048) :
    xAt m c t (ix2 r k) = m ((c : Thread nD τ).loc main_arg0) (ix3
      (⟨r.val / 256, by omega⟩ : Fin 4) (⟨r.val % 256, by omega⟩ : Fin 256) k) := by
  unfold xAt
  blk_simp [iblk]
  entry_read
  pointwise
  blk_ext [idx0]

theorem prod_at (x : Vec Ideal S1024x2048 .bf16) (w : Vec Ideal S2048x1024 .bf16) (r : Fin 1024) (n : Fin 1024) :
    k0_pay2 x w (ix2 r n) = ∑ k : Fin 2048, (x (ix2 r k) : EReal) * w (ix2 k n) := by
  unfold k0_pay2
  pointwise

/-- A point's block is its rows by its weights. -/
theorem out_at (t : Fin cfg0.N) (r : Fin 1024) (n : Fin 1024) :
    (outsAt0 m c t) (ix2 r n) = ∑ k : Fin 2048, (xAt m c t (ix2 r k) : EReal) * wAt m c t (ix2 k n) := by
  unfold outsAt0
  frame_out
  exact prod_at _ _ r n

/-- The projections side by side. -/
def G (x : Vec Ideal (⟨3, ![4, 256, 2048]⟩ : Shape) .f32) (w : Vec Ideal (⟨3, ![4, 2048, 2048]⟩ : Shape) .f32) :
    Vec Ideal (⟨2, ![1024, 8192]⟩ : Shape) .bf16 := fun y =>
  ∑ k : Fin 2048, (x (ix3 (⟨(y 0).val / 256, by have : (y 0).val < 1024 := (y 0).isLt; omega⟩ : Fin 4)
    (⟨(y 0).val % 256, by omega⟩ : Fin 256) k) : EReal) *
    w (ix3 (⟨(y 1).val / 2048, by have : (y 1).val < 8192 := (y 1).isLt; omega⟩ : Fin 4) k (⟨(y 1).val % 2048, by omega⟩ : Fin 2048))

theorem final : (dats m 0 c).arrAt 2 cfg0.N =
    G (m ((c : Thread nD τ).loc main_arg0)) (m ((c : Thread nD τ).loc main_arg1)) := by
  refine (dats m 0 c).arrAt_eq_of_covers 2 _ (by decide +kernel) fun t hf y => ?_
  blk_simp
  rw [after0_2]
  have hN : t.val < 8 := t.isLt
  obtain ⟨r, n, rfl⟩ : ∃ (r : Fin 1024) (n : Fin 1024), y = ix2 r n := ⟨y 0, y 1, eq_ix2 y⟩
  refine (out_at m c t r n).trans ?_
  unfold G
  refine Finset.sum_congr rfl fun k _ => congrArg₂ _ ((x_read m c t r k).trans ?_) ((w_read m c t k n).trans ?_)
  · blk_ext [idx2]
  · blk_ext [idx2]

/-- A projection of the memory. -/
def D (x : Vec Ideal (⟨3, ![4, 256, 2048]⟩ : Shape) .f32) (w : Vec Ideal (⟨2, ![2048, 2048]⟩ : Shape) .f32) : Vec Ideal (⟨3, ![4, 256, 2048]⟩ : Shape) .f32 :=
  Host.dotGeneral (F := Ideal) (φ₁ := .f32) (φ₂ := .f32) RefMemKvIdeal.dot_S4x256x2048_S2048x2048_S4x256x2048_2_0_01_1_n_n none x w

/-- An entry of it, the weights a slice of the argument. -/
theorem slice_at (x : Vec Ideal (⟨3, ![4, 256, 2048]⟩ : Shape) .f32) (w : Vec Ideal (⟨3, ![4, 2048, 2048]⟩ : Shape) .f32) (l : Fin 4)
    (v : Vec Ideal (⟨2, ![2048, 2048]⟩ : Shape) .f32) (hv : ∀ k n : Fin 2048, v (ix2 k n) = w (ix3 l k n)) (b : Fin 4) (j : Fin 256) (n : Fin 2048) :
    D x v (ix3 b j n) = ∑ k : Fin 2048, (x (ix3 b j k) : EReal) * w (ix3 l k n) := by
  unfold D
  pointwise
  exact Finset.sum_congr rfl fun k _ => congrArg _ (hv k n)

theorem reference (x : Vec Ideal (⟨3, ![4, 256, 2048]⟩ : Shape) .f32) (w : Vec Ideal (⟨3, ![4, 2048, 2048]⟩ : Shape) .f32) :
    (shapeCast _ (truncf (F := Ideal) (φ := .f32) .bf16 (concatenate (α := EReal) RefMemKvIdeal.S4x256x8192 2 [
      ⟨RefMemKvIdeal.S4x256x2048, (D x (shapeCast _ (extractStridedSlice RefMemKvIdeal.S1x2048x2048 ![0, 0, 0] w RefMemKvIdeal.Gen.slices_S4x2048x2048_S1x2048x2048_0_0_0)
        RefMemKvIdeal.Gen.shapeCasts_S1x2048x2048_S2048x2048))⟩,
      ⟨RefMemKvIdeal.S4x256x2048, (D x (shapeCast _ (extractStridedSlice RefMemKvIdeal.S1x2048x2048 ![1, 0, 0] w RefMemKvIdeal.Gen.slices_S4x2048x2048_S1x2048x2048_1_0_0)
        RefMemKvIdeal.Gen.shapeCasts_S1x2048x2048_S2048x2048))⟩,
      ⟨RefMemKvIdeal.S4x256x2048, (D x (shapeCast _ (extractStridedSlice RefMemKvIdeal.S1x2048x2048 ![2, 0, 0] w RefMemKvIdeal.Gen.slices_S4x2048x2048_S1x2048x2048_2_0_0)
        RefMemKvIdeal.Gen.shapeCasts_S1x2048x2048_S2048x2048))⟩,
      ⟨RefMemKvIdeal.S4x256x2048, (D x (shapeCast _ (extractStridedSlice RefMemKvIdeal.S1x2048x2048 ![3, 0, 0] w RefMemKvIdeal.Gen.slices_S4x2048x2048_S1x2048x2048_3_0_0)
        RefMemKvIdeal.Gen.shapeCasts_S1x2048x2048_S2048x2048))⟩] RefMemKvIdeal.Gen.concatenates_S4x256x2048_S4x256x2048_S4x256x2048_S4x256x2048_S4x256x8192_d2)
      RefMemKvIdeal.Gen.bitsLt_bf16_f32) RefMemKvIdeal.Gen.shapeCasts_S4x256x8192_S1024x8192 :
      Vec Ideal (⟨2, ![1024, 8192]⟩ : Shape) .bf16) = G x w := by
  funext y
  rw [eq_ix2 y]
  unfold G
  pointwise
  have hy : (y 1).val < 8192 := (y 1).isLt
  have at_l : ∀ (l : Fin 4) (n : Fin 2048) (v : Vec Ideal (⟨2, ![2048, 2048]⟩ : Shape) .f32) (b : Fin 4) (j : Fin 256)
      (_ : ∀ k n : Fin 2048, v (ix2 k n) = w (ix3 l k n)) (_ : l.val * 2048 + n.val = (y 1).val),
      D x v (ix3 b j n) = ∑ k : Fin 2048, (x (ix3 b j k) : EReal) *
        w (ix3 (⟨(y 1).val / 2048, by omega⟩ : Fin 4) k (⟨(y 1).val % 2048, by omega⟩ : Fin 2048)) := by
    intro l n v b j hv h
    have el : l = (⟨(y 1).val / 2048, by omega⟩ : Fin 4) := Fin.ext (by show l.val = (y 1).val / 2048; omega)
    have en : n = (⟨(y 1).val % 2048, by omega⟩ : Fin 2048) := Fin.ext (by show n.val = (y 1).val % 2048; omega)
    rw [← el, ← en]
    exact slice_at x w l v hv b j n
  by_cases h0 : (y 1).val < 2048
  · rw [dif_pos h0]
    exact at_l 0 _ _ _ _ (fun k n => by pointwise) (by show 0 * 2048 + (y 1).val = (y 1).val; omega)
  rw [dif_neg h0]
  by_cases h1 : (y 1).val - 2048 < 2048
  · rw [dif_pos h1]
    exact at_l 1 _ _ _ _ (fun k n => by pointwise) (by show 1 * 2048 + ((y 1).val - 2048) = (y 1).val; omega)
  rw [dif_neg h1]
  by_cases h2 : (y 1).val - 2048 - 2048 < 2048
  · rw [dif_pos h2]
    exact at_l 2 _ _ _ _ (fun k n => by pointwise) (by show 2 * 2048 + ((y 1).val - 2048 - 2048) = (y 1).val; omega)
  rw [dif_neg h2]
  exact at_l 3 _ _ _ _ (fun k n => by pointwise) (by show 3 * 2048 + ((y 1).val - 2048 - 2048 - 2048) = (y 1).val; omega)

end Cert.Proof.MemKv

end
-- ==== Proof.OutSpec.lean ====
/- One row of the output call's two results: the row's attention over the memory, its gated projection, and the norm of the sum with the
   row it is added to. -/
module

public import Idealize.ShloMosaic.Lib.Pipeline.ValueKit
public import Idealize.ShloMosaic.Lib.Pointwise

@[expose] public section

noncomputable section

namespace Cert.Proof.OutSpec

open Idealize.ShloMosaic

/-- A query's score against one of the memory's keys. -/
def score (q : Fin 256 → EReal) (K : Fin 256 → Fin 256 → EReal) (p : Fin 256) : EReal :=
  (∑ i, q i * K p i) * Ideal.ofBits FTy.f32 0x3D800000#32

/-- The largest of them. -/
def top (q : Fin 256 → EReal) (K : Fin 256 → Fin 256 → EReal) : EReal :=
  Finset.fold max (Ideal.ofBits FTy.f32 0xFF800000#32) (fun p => score q K p) Finset.univ

/-- The weight of a key before the weights are scaled to sum to one. -/
def weight (q : Fin 256 → EReal) (K : Fin 256 → Fin 256 → EReal) (p : Fin 256) : EReal :=
  Ideal.exp (score q K p - top q K)

/-- What a query reads from the memory's values. -/
def att (q : Fin 256 → EReal) (K V : Fin 256 → Fin 256 → EReal) (e : Fin 256) : EReal :=
  ∑ p, Ideal.div (weight q K p) (∑ p, weight q K p) * V p e

/-- The four heads of a row side by side: keys in the memory's first thousand columns, values in the rest. -/
def mem (q : Fin 1024 → EReal) (kv : Fin 256 → Fin 2048 → EReal) (j : Fin 1024) : EReal :=
  att (fun i => q (⟨j.val / 256 * 256 + i.val, by omega⟩ : Fin 1024))
    (fun p i => kv p (⟨j.val / 256 * 256 + i.val, by omega⟩ : Fin 2048))
    (fun p i => kv p (⟨1024 + (j.val / 256 * 256 + i.val), by omega⟩ : Fin 2048)) (⟨j.val % 256, by omega⟩ : Fin 256)

/-- The branches' row, the memory's after the others. -/
def cat (x : Fin 3072 → EReal) (u : Fin 1024 → EReal) (k : Fin 4096) : EReal :=
  if h : k.val < 3072 then x (⟨k.val, h⟩ : Fin 3072) else u (⟨k.val - 3072, by omega⟩ : Fin 1024)

/-- A gated entry times a weight. -/
def term (v z w : EReal) : EReal := v * (z * Ideal.logistic z) * w

/-- A row's projection. -/
def proj (v z : Fin 4096 → EReal) (w : Fin 4096 → Fin 2048 → EReal) (n : Fin 2048) : EReal :=
  ∑ k, term (v k) (z k) (w k n)

/-- The row before its norm. -/
def sum (x y : Fin 2048 → EReal) (n : Fin 2048) : EReal := Ideal.ofBits FTy.f32 0x3FD744FD#32 * x n + y n

/-- An entry's distance from the row's mean. -/
def dev (s : Fin 2048 → EReal) (n : Fin 2048) : EReal := s n - Ideal.div (∑ j, s j) (Ideal.ofBits FTy.f32 0x45000000#32)

/-- The row with its mean taken away, scaled by its spread. -/
def norm (s g b : Fin 2048 → EReal) (n : Fin 2048) : EReal :=
  dev s n * Ideal.rsqrt (Ideal.div (∑ j, dev s j * dev s j) (Ideal.ofBits FTy.f32 0x45000000#32) + Ideal.ofBits FTy.f32 0x3727C5AC#32) *
    g n + b n

/-- A sum over four thousand entries is that over four runs of a thousand. -/
theorem sum_four (f : Fin 4096 → EReal) :
    ∑ k, f k = (∑ k : Fin 1024, f (⟨0 * 1024 + k.val, by omega⟩ : Fin 4096)) + (∑ k : Fin 1024, f (⟨1 * 1024 + k.val, by omega⟩ : Fin 4096)) +
      (∑ k : Fin 1024, f (⟨2 * 1024 + k.val, by omega⟩ : Fin 4096)) + ∑ k : Fin 1024, f (⟨3 * 1024 + k.val, by omega⟩ : Fin 4096) := by
  exact (Fin.sum_mul_add_fin 4 1024 f).symm.trans (Fin.sum_univ_four _)

end Cert.Proof.OutSpec

end
-- ==== Proof.OutPay.lean ====
/- What the stages of the output call compute, entry by entry: attention over the memory of one head, the gated product, and the norm
   of a row. -/
module

public import proofs.«01_k».proof.Proof.Gen.GateOutIdeal.Skeleton
public import proofs.«01_k».proof.Proof.OutSpec
public import Idealize.ShloMosaic.Lib.Pipeline.ValueKit
public import Idealize.ShloMosaic.Lib.Pointwise

@[expose] public section

set_option maxRecDepth 16384

noncomputable section

namespace Cert.Proof.OutPay

open Idealize.ShloMosaic Idealize.SL.Sem
open Cert.GateOutIdeal Cert.GateOutIdeal.Gen Cert.Proof.OutSpec

/-- The first head. -/
theorem head0 (k v : Vec Ideal S1x256x256 .bf16) (q : Vec Ideal S256x256 .bf16) (r e : Fin 256) :
    k0_pay20 (F := Ideal) (k0_pay17 k) (k0_pay18 v) (k0_pay19 q) (ix2 r e) =
      att (fun i => q (ix2 r i)) (fun p i => k (ix3 0 p i)) (fun p i => v (ix3 0 p i)) e := by
  unfold k0_pay20 k0_pay17 k0_pay18 k0_pay19
  pointwise
  rfl

/-- The second. -/
theorem head1 (k v : Vec Ideal S1x256x256 .bf16) (q : Vec Ideal S256x256 .bf16) (r e : Fin 256) :
    k0_pay21 (F := Ideal) k v q (ix2 r e) =
      att (fun i => q (ix2 r i)) (fun p i => k (ix3 0 p i)) (fun p i => v (ix3 0 p i)) e := by
  unfold k0_pay21
  pointwise
  rfl

/-- Four blocks side by side. -/
theorem four (a b c d : FVec Ideal S256x256 .f32) (r : Fin 256) (j : Fin 1024) :
    (truncf (F := Ideal) (φ := .f32) .bf16 (concatenate (α := EReal) S256x1024 1 [⟨S256x256, a⟩, ⟨S256x256, b⟩, ⟨S256x256, c⟩, ⟨S256x256, d⟩]
      concatenates_S256x256_S256x256_S256x256_S256x256_S256x1024_d1) bitsLt_bf16_f32 : FVec Ideal S256x1024 .bf16) (ix2 r j) =
      if h0 : j.val < 256 then a (ix2 r (⟨j.val, h0⟩ : Fin 256))
      else if h1 : j.val - 256 < 256 then b (ix2 r (⟨j.val - 256, h1⟩ : Fin 256))
      else if h2 : j.val - 256 - 256 < 256 then c (ix2 r (⟨j.val - 256 - 256, h2⟩ : Fin 256))
      else d (ix2 r (⟨j.val - 256 - 256 - 256, by omega⟩ : Fin 256)) := by
  pointwise

/-- The four heads side by side. -/
theorem heads (a b : FVec Ideal S256x256 .f32) (k2 v2 k3 v3 : Vec Ideal S1x256x256 .bf16) (q2 q3 : Vec Ideal S256x256 .bf16) (r : Fin 256)
    (j : Fin 1024) :
    k0_pay23 (F := Ideal) a b (k0_pay22 k2) v2 q2 k3 v3 q3 (ix2 r j) =
      if h0 : j.val < 256 then a (ix2 r (⟨j.val, h0⟩ : Fin 256))
      else if h1 : j.val - 256 < 256 then b (ix2 r (⟨j.val - 256, h1⟩ : Fin 256))
      else if h2 : j.val - 256 - 256 < 256 then k0_pay21 (F := Ideal) k2 v2 q2 (ix2 r (⟨j.val - 256 - 256, h2⟩ : Fin 256))
      else k0_pay21 (F := Ideal) k3 v3 q3 (ix2 r (⟨j.val - 256 - 256 - 256, by omega⟩ : Fin 256)) :=
  four a b (k0_pay21 (F := Ideal) k2 v2 q2) (k0_pay21 (F := Ideal) k3 v3 q3) r j

/-- The gated product of the first run of entries, -/
theorem first (z x : Vec Ideal S256x1024 .bf16) (w : Vec Ideal S1x1024x2048 .bf16) (r : Fin 256) (n : Fin 2048) :
    k0_pay3 z x w (ix2 r n) = ∑ k : Fin 1024, term (x (ix2 r k)) (z (ix2 r k)) (w (ix3 0 k n)) := by
  unfold k0_pay3
  pointwise
  rfl

/-- of the second, added to the first, -/
theorem second (acc : FVec Ideal S256x2048 .f32) (z x : Vec Ideal S256x1024 .bf16) (w : Vec Ideal S1x1024x2048 .bf16) (r : Fin 256)
    (n : Fin 2048) : k0_pay7 (F := Ideal) acc z x w (ix2 r n) =
      acc (ix2 r n) + ∑ k : Fin 1024, term (x (ix2 r k)) (z (ix2 r k)) (w (ix3 0 k n)) := by
  unfold k0_pay7
  pointwise
  rfl

/-- of the third, -/
theorem third (acc : FVec Ideal S256x2048 .f32) (z x : Vec Ideal S256x1024 .bf16) (w : Vec Ideal S1x1024x2048 .bf16) (r : Fin 256)
    (n : Fin 2048) : k0_pay12 (F := Ideal) acc z x w (ix2 r n) =
      acc (ix2 r n) + ∑ k : Fin 1024, term (x (ix2 r k)) (z (ix2 r k)) (w (ix3 0 k n)) := by
  unfold k0_pay12
  pointwise
  rfl

/-- and of the fourth. -/
theorem fourth (acc : FVec Ideal S256x2048 .f32) (z x : Vec Ideal S256x1024 .bf16) (w : Vec Ideal S1x1024x2048 .bf16) (r : Fin 256)
    (n : Fin 2048) : k0_pay24 (F := Ideal) acc (k0_pay16 z) x w (ix2 r n) =
      acc (ix2 r n) + ∑ k : Fin 1024, term (x (ix2 r k)) (z (ix2 r k)) (w (ix3 0 k n)) := by
  unfold k0_pay24 k0_pay16
  pointwise
  rfl

/-- The norm of the first quarter's rows, -/
theorem norm0 (x y : Vec Ideal S64x2048 .f32) (g b : Vec Ideal S1x2048 .f32) (r : Fin 64) (n : Fin 2048) :
    k0_pay5 (F := Ideal) (k0_pay4 x y) g b (ix2 r n) = norm (sum (fun n => x (ix2 r n)) (fun n => y (ix2 r n))) (fun n => g (ix2 0 n)) (fun n => b (ix2 0 n)) n := by
  unfold k0_pay5 k0_pay4
  pointwise
  rfl

/-- and the same rows in the narrower type. -/
theorem narrow0 (x y : Vec Ideal S64x2048 .f32) (g b : Vec Ideal S1x2048 .f32) (r : Fin 64) (n : Fin 2048) :
    k0_pay6 (F := Ideal) (k0_pay4 x y) g b (ix2 r n) = norm (sum (fun n => x (ix2 r n)) (fun n => y (ix2 r n))) (fun n => g (ix2 0 n)) (fun n => b (ix2 0 n)) n := by
  unfold k0_pay6
  exact norm0 x y g b r n

/-- The norm of the second quarter's rows, -/
theorem norm1 (x y : Vec Ideal S64x2048 .f32) (g b : Vec Ideal S1x2048 .f32) (r : Fin 64) (n : Fin 2048) :
    k0_pay10 (F := Ideal) (k0_pay8 x y) (k0_pay9 x y) g b (ix2 r n) = norm (sum (fun n => x (ix2 r n)) (fun n => y (ix2 r n))) (fun n => g (ix2 0 n)) (fun n => b (ix2 0 n)) n := by
  unfold k0_pay10 k0_pay9 k0_pay8
  pointwise
  rfl

/-- and the same rows in the narrower type. -/
theorem narrow1 (x y : Vec Ideal S64x2048 .f32) (g b : Vec Ideal S1x2048 .f32) (r : Fin 64) (n : Fin 2048) :
    k0_pay11 (F := Ideal) (k0_pay8 x y) (k0_pay9 x y) g b (ix2 r n) = norm (sum (fun n => x (ix2 r n)) (fun n => y (ix2 r n))) (fun n => g (ix2 0 n)) (fun n => b (ix2 0 n)) n := by
  unfold k0_pay11
  exact norm1 x y g b r n

/-- The norm of the third quarter's rows, -/
theorem norm2 (x y : Vec Ideal S64x2048 .f32) (g b : Vec Ideal S1x2048 .f32) (r : Fin 64) (n : Fin 2048) :
    k0_pay14 (F := Ideal) (k0_pay13 x y) g b (ix2 r n) = norm (sum (fun n => x (ix2 r n)) (fun n => y (ix2 r n))) (fun n => g (ix2 0 n)) (fun n => b (ix2 0 n)) n := by
  unfold k0_pay14 k0_pay13
  pointwise
  rfl

/-- and the same rows in the narrower type. -/
theorem narrow2 (x y : Vec Ideal S64x2048 .f32) (g b : Vec Ideal S1x2048 .f32) (r : Fin 64) (n : Fin 2048) :
    k0_pay15 (F := Ideal) (k0_pay13 x y) g b (ix2 r n) = norm (sum (fun n => x (ix2 r n)) (fun n => y (ix2 r n))) (fun n => g (ix2 0 n)) (fun n => b (ix2 0 n)) n := by
  unfold k0_pay15
  exact norm2 x y g b r n

/-- The norm of the last quarter's rows, -/
theorem norm3 (x y : Vec Ideal S64x2048 .f32) (g b : Vec Ideal S1x2048 .f32) (r : Fin 64) (n : Fin 2048) :
    k0_pay25 (F := Ideal) x y g b (ix2 r n) = norm (sum (fun n => x (ix2 r n)) (fun n => y (ix2 r n))) (fun n => g (ix2 0 n)) (fun n => b (ix2 0 n)) n := by
  unfold k0_pay25
  pointwise
  rfl

/-- and the same rows in the narrower type. -/
theorem narrow3 (x y : Vec Ideal S64x2048 .f32) (g b : Vec Ideal S1x2048 .f32) (r : Fin 64) (n : Fin 2048) :
    k0_pay26 (F := Ideal) x y g b (ix2 r n) = norm (sum (fun n => x (ix2 r n)) (fun n => y (ix2 r n))) (fun n => g (ix2 0 n)) (fun n => b (ix2 0 n)) n := by
  unfold k0_pay26
  exact norm3 x y g b r n

end Cert.Proof.OutPay

end
-- ==== Proof.OutKer.lean ====
/- The output call's grid: a point projects its block of rows and leaves the sum in scratch; it also norms the rows of the point before. -/
module

public import proofs.«01_k».proof.Proof.Gen.GateOutIdeal.Value
public import proofs.«01_k».proof.Proof.OutPay
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Proof.OutKer

open Idealize.ShloMosaic Idealize.ShloMosaic.TcCoe Idealize.SL.Sem
open Cert.GateOutIdeal Cert.GateOutIdeal.Gen

variable (m : (ℓ : Loc nD τ sig) → Buf (Elt Ideal) ℓ) (c : Dev nD)

theorem idx0 : ∀ t : Fin cfg0.N, win0_0.index t = ![min t.val 63, 0] := (by decide +kernel : ∀ t : Fin grid0.N, _)
theorem idx1 : ∀ t : Fin cfg0.N, win0_1.index t = ![min t.val 63, 6] := (by decide +kernel : ∀ t : Fin grid0.N, _)
theorem idx2 : ∀ t : Fin cfg0.N, win0_2.index t = ![min t.val 63, 7] := (by decide +kernel : ∀ t : Fin grid0.N, _)
theorem idx3 : ∀ t : Fin cfg0.N, win0_3.index t = ![min t.val 63, 8] := (by decide +kernel : ∀ t : Fin grid0.N, _)
theorem idx4 : ∀ t : Fin cfg0.N, win0_4.index t = ![min t.val 63, 9] := (by decide +kernel : ∀ t : Fin grid0.N, _)
theorem idx5 : ∀ t : Fin cfg0.N, win0_5.index t = ![min t.val 63, 10] := (by decide +kernel : ∀ t : Fin grid0.N, _)
theorem idx6 : ∀ t : Fin cfg0.N, win0_6.index t = ![min t.val 63 / 16, 0, 3] := (by decide +kernel : ∀ t : Fin grid0.N, _)
theorem idx7 : ∀ t : Fin cfg0.N, win0_7.index t = ![3, 0, 0] := (by decide +kernel : ∀ t : Fin grid0.N, _)
theorem idx8 : ∀ t : Fin cfg0.N, win0_8.index t = ![t.val - 1, 0] := (by decide +kernel : ∀ t : Fin grid0.N, _)
theorem idx9 : ∀ t : Fin cfg0.N, win0_9.index t = ![0, 0] := (by decide +kernel : ∀ t : Fin grid0.N, _)
theorem idx10 : ∀ t : Fin cfg0.N, win0_10.index t = ![0, 0] := (by decide +kernel : ∀ t : Fin grid0.N, _)
theorem idx11 : ∀ t : Fin cfg0.N, win0_11.index t = ![t.val - 1, 0] := (by decide +kernel : ∀ t : Fin grid0.N, _)
theorem idx12 : ∀ t : Fin cfg0.N, win0_12.index t = ![t.val - 1, 0] := (by decide +kernel : ∀ t : Fin grid0.N, _)

/-- A point's blocks: the branches' rows, -/
def xAt (t : Fin cfg0.N) : Vec Ideal S256x3072 .bf16 := iblk m c 0 t

/-- the queries, -/
def qAt (t : Fin cfg0.N) : Vec Ideal S256x1024 .bf16 := iblk m c 1 t

/-- the memory's keys and values, -/
def kvAt (t : Fin cfg0.N) : Vec Ideal S1x256x2048 .bf16 := iblk m c 6 t

/-- the weights, -/
def wAt (t : Fin cfg0.N) : Vec Ideal S1x4096x2048 .bf16 := iblk m c 7 t

/-- the rows added, -/
def rAt (t : Fin cfg0.N) : Vec Ideal S256x2048 .f32 := iblk m c 8 t

/-- and the norm's scale -/
def gAt (t : Fin cfg0.N) : Vec Ideal S1x2048 .f32 := iblk m c 9 t

/-- and shift. -/
def bAt (t : Fin cfg0.N) : Vec Ideal S1x2048 .f32 := iblk m c 10 t

/-- Run 0 of the gates. -/
def z0At (t : Fin cfg0.N) : Vec Ideal S256x1024 .bf16 := iblk m c 2 t

/-- Run 1 of the gates. -/
def z1At (t : Fin cfg0.N) : Vec Ideal S256x1024 .bf16 := iblk m c 3 t

/-- Run 2 of the gates. -/
def z2At (t : Fin cfg0.N) : Vec Ideal S256x1024 .bf16 := iblk m c 4 t

/-- Run 3 of the gates. -/
def z3At (t : Fin cfg0.N) : Vec Ideal S256x1024 .bf16 := iblk m c 5 t

/-- The batch of a row of the point's block, -/
def bt (t : Fin cfg0.N) (r : Fin 256) : Fin 4 := ⟨(min t.val 63 * 256 + r.val) / 4096, by omega⟩

/-- and its place in the batch. -/
def st (t : Fin cfg0.N) (r : Fin 256) : Fin 4096 := ⟨(min t.val 63 * 256 + r.val) % 4096, by omega⟩

theorem x_read (t : Fin cfg0.N) (r : Fin 256) (k : Fin 3072) :
    xAt m c t (ix2 r k) = m ((c : Thread nD τ).loc main_arg0) (ix3 (bt t r) (st t r) k) := by
  unfold xAt bt st
  blk_simp [iblk]
  entry_read
  pointwise
  blk_ext [idx0]

theorem q_read (t : Fin cfg0.N) (r : Fin 256) (k : Fin 1024) :
    qAt m c t (ix2 r k) = m ((c : Thread nD τ).loc main_arg1) (ix3 (bt t r) (st t r) (⟨6144 + k.val, by omega⟩ : Fin 11264)) := by
  unfold qAt bt st
  blk_simp [iblk]
  entry_read
  pointwise
  blk_ext [idx1]

theorem z0_read (t : Fin cfg0.N) (r : Fin 256) (k : Fin 1024) :
    z0At m c t (ix2 r k) = m ((c : Thread nD τ).loc main_arg1) (ix3 (bt t r) (st t r) (⟨7168 + (0 * 1024 + k.val), by omega⟩ : Fin 11264)) := by
  unfold z0At bt st
  blk_simp [iblk]
  entry_read
  pointwise
  blk_ext [idx2]

theorem z1_read (t : Fin cfg0.N) (r : Fin 256) (k : Fin 1024) :
    z1At m c t (ix2 r k) = m ((c : Thread nD τ).loc main_arg1) (ix3 (bt t r) (st t r) (⟨7168 + (1 * 1024 + k.val), by omega⟩ : Fin 11264)) := by
  unfold z1At bt st
  blk_simp [iblk]
  entry_read
  pointwise
  blk_ext [idx3]

theorem z2_read (t : Fin cfg0.N) (r : Fin 256) (k : Fin 1024) :
    z2At m c t (ix2 r k) = m ((c : Thread nD τ).loc main_arg1) (ix3 (bt t r) (st t r) (⟨7168 + (2 * 1024 + k.val), by omega⟩ : Fin 11264)) := by
  unfold z2At bt st
  blk_simp [iblk]
  entry_read
  pointwise
  blk_ext [idx4]

theorem z3_read (t : Fin cfg0.N) (r : Fin 256) (k : Fin 1024) :
    z3At m c t (ix2 r k) = m ((c : Thread nD τ).loc main_arg1) (ix3 (bt t r) (st t r) (⟨7168 + (3 * 1024 + k.val), by omega⟩ : Fin 11264)) := by
  unfold z3At bt st
  blk_simp [iblk]
  entry_read
  pointwise
  blk_ext [idx5]

theorem kv_read (t : Fin cfg0.N) (r : Fin 256) (p : Fin 256) (j : Fin 2048) :
    kvAt m c t (ix3 0 p j) = m ((c : Thread nD τ).loc main_arg2) (ix3 (bt t r) p (⟨6144 + j.val, by omega⟩ : Fin 8192)) := by
  unfold kvAt bt
  blk_simp [iblk]
  blk_ext [iblk, V_main_arg2, idx6]

theorem w_read (t : Fin cfg0.N) (k : Fin 4096) (n : Fin 2048) :
    wAt m c t (ix3 0 k n) = m ((c : Thread nD τ).loc main_arg3) (ix3 3 k n) := by
  unfold wAt
  blk_simp [iblk]
  entry_read
  pointwise
  blk_ext [idx7]

theorem r_read (t : Fin cfg0.N) (r : Fin 256) (n : Fin 2048) :
    rAt m c t (ix2 r n) = m ((c : Thread nD τ).loc main_arg4) (ix3
      (⟨((t.val - 1) * 256 + r.val) / 4096, by have := t.isLt; have : cfg0.N = 65 := rfl; omega⟩ : Fin 4)
      (⟨((t.val - 1) * 256 + r.val) % 4096, by omega⟩ : Fin 4096) n) := by
  unfold rAt
  blk_simp [iblk]
  entry_read
  pointwise
  blk_ext [idx8]

theorem g_read (t : Fin cfg0.N) (n : Fin 2048) : gAt m c t (ix2 0 n) = m ((c : Thread nD τ).loc main_arg5) (ix2 3 n) := by
  unfold gAt
  blk_simp [iblk]
  entry_read
  pointwise
  blk_ext [idx9]

theorem b_read (t : Fin cfg0.N) (n : Fin 2048) : bAt m c t (ix2 0 n) = m ((c : Thread nD τ).loc main_arg6) (ix2 3 n) := by
  unfold bAt
  blk_simp [iblk]
  entry_read
  pointwise
  blk_ext [idx10]

end Cert.Proof.OutKer

end
-- ==== Proof.OutYs.lean ====
/- The output call's projection of a block of rows: its four runs of products sum to the row's projection. -/
module

public import proofs.«01_k».proof.Proof.Gen.GateOutIdeal.Value
public import proofs.«01_k».proof.Proof.OutPay
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Proof.OutYs

open Idealize.ShloMosaic Idealize.ShloMosaic.TcCoe Idealize.SL.Sem
open Cert.GateOutIdeal Cert.GateOutIdeal.Gen Cert.Proof.OutSpec

variable (x : Vec Ideal S256x3072 .bf16) (q : Vec Ideal S256x1024 .bf16) (z0 z1 z2 z3 : Vec Ideal S256x1024 .bf16)
  (kv : Vec Ideal S1x256x2048 .bf16) (w : Vec Ideal S1x4096x2048 .bf16)

/-- The memory's rows of a block. -/
def memBlk : FVec Ideal S256x1024 .bf16 :=
  k0_pay23 (F := Ideal)
    (k0_pay20 (k0_pay17 (View.ld kv (Rect.unit ![0, 0, 0] ![1, 256, 256] inb_S1x256x2048_S1x256x256_0_0_0)))
      (k0_pay18 (View.ld kv (Rect.unit ![0, 0, 1024] ![1, 256, 256] inb_S1x256x2048_S1x256x256_0_0_1024)))
      (k0_pay19 (View.ld q (Rect.unit ![0, 0] ![256, 256] inb_S256x1024_S256x256_0_0))))
    (k0_pay21 (View.ld kv (Rect.unit ![0, 0, 256] ![1, 256, 256] inb_S1x256x2048_S1x256x256_0_0_256))
      (View.ld kv (Rect.unit ![0, 0, 1280] ![1, 256, 256] inb_S1x256x2048_S1x256x256_0_0_1280))
      (View.ld q (Rect.unit ![0, 256] ![256, 256] inb_S256x1024_S256x256_0_256)))
    (k0_pay22 (View.ld kv (Rect.unit ![0, 0, 512] ![1, 256, 256] inb_S1x256x2048_S1x256x256_0_0_512)))
    (View.ld kv (Rect.unit ![0, 0, 1536] ![1, 256, 256] inb_S1x256x2048_S1x256x256_0_0_1536))
    (View.ld q (Rect.unit ![0, 512] ![256, 256] inb_S256x1024_S256x256_0_512))
    (View.ld kv (Rect.unit ![0, 0, 768] ![1, 256, 256] inb_S1x256x2048_S1x256x256_0_0_768))
    (View.ld kv (Rect.unit ![0, 0, 1792] ![1, 256, 256] inb_S1x256x2048_S1x256x256_0_0_1792))
    (View.ld q (Rect.unit ![0, 768] ![256, 256] inb_S256x1024_S256x256_0_768))

/-- The first three runs. -/
def three : FVec Ideal S256x2048 .f32 :=
  k0_pay12 (F := Ideal)
    (k0_pay7
      (k0_pay3 z0 (View.ld x (Rect.unit ![0, 0] ![256, 1024] inb_S256x3072_S256x1024_0_0))
        (View.ld w (Rect.unit ![0, 0, 0] ![1, 1024, 2048] inb_S1x4096x2048_S1x1024x2048_0_0_0)))
      z1 (View.ld x (Rect.unit ![0, 1024] ![256, 1024] inb_S256x3072_S256x1024_0_1024))
      (View.ld w (Rect.unit ![0, 1024, 0] ![1, 1024, 2048] inb_S1x4096x2048_S1x1024x2048_0_1024_0)))
    z2 (View.ld x (Rect.unit ![0, 2048] ![256, 1024] inb_S256x3072_S256x1024_0_2048))
    (View.ld w (Rect.unit ![0, 2048, 0] ![1, 1024, 2048] inb_S1x4096x2048_S1x1024x2048_0_2048_0))

/-- The block's projection. -/
def ys : FVec Ideal S256x2048 .f32 :=
  k0_pay1 (F := Ideal) (k0_pay24 (three x z0 z1 z2 w) (k0_pay16 z3) (memBlk q kv)
    (View.ld w (Rect.unit ![0, 3072, 0] ![1, 1024, 2048] inb_S1x4096x2048_S1x1024x2048_0_3072_0)))

theorem x_ld0 (r : Fin 256) (k : Fin 1024) : (View.ld x (Rect.unit ![0, 0] ![256, 1024] inb_S256x3072_S256x1024_0_0)) (ix2 r k) = x (ix2 r (⟨0 + k.val, by omega⟩ : Fin 3072)) :=
  View.ld_unit_apply_of _ _ _ _ _ _ (by intro a; fin_cases a <;> simp <;> rfl)

theorem x_ld1024 (r : Fin 256) (k : Fin 1024) : (View.ld x (Rect.unit ![0, 1024] ![256, 1024] inb_S256x3072_S256x1024_0_1024)) (ix2 r k) = x (ix2 r (⟨1024 + k.val, by omega⟩ : Fin 3072)) :=
  View.ld_unit_apply_of _ _ _ _ _ _ (by intro a; fin_cases a <;> simp <;> rfl)

theorem x_ld2048 (r : Fin 256) (k : Fin 1024) : (View.ld x (Rect.unit ![0, 2048] ![256, 1024] inb_S256x3072_S256x1024_0_2048)) (ix2 r k) = x (ix2 r (⟨2048 + k.val, by omega⟩ : Fin 3072)) :=
  View.ld_unit_apply_of _ _ _ _ _ _ (by intro a; fin_cases a <;> simp <;> rfl)

theorem w_ld0 (k : Fin 1024) (n : Fin 2048) : (View.ld w (Rect.unit ![0, 0, 0] ![1, 1024, 2048] inb_S1x4096x2048_S1x1024x2048_0_0_0)) (ix3 0 k n) = w (ix3 0 (⟨0 + k.val, by omega⟩ : Fin 4096) n) :=
  View.ld_unit_apply_of _ _ _ _ _ _ (by intro a; fin_cases a <;> simp <;> rfl)

theorem w_ld1024 (k : Fin 1024) (n : Fin 2048) : (View.ld w (Rect.unit ![0, 1024, 0] ![1, 1024, 2048] inb_S1x4096x2048_S1x1024x2048_0_1024_0)) (ix3 0 k n) = w (ix3 0 (⟨1024 + k.val, by omega⟩ : Fin 4096) n) :=
  View.ld_unit_apply_of _ _ _ _ _ _ (by intro a; fin_cases a <;> simp <;> rfl)

theorem w_ld2048 (k : Fin 1024) (n : Fin 2048) : (View.ld w (Rect.unit ![0, 2048, 0] ![1, 1024, 2048] inb_S1x4096x2048_S1x1024x2048_0_2048_0)) (ix3 0 k n) = w (ix3 0 (⟨2048 + k.val, by omega⟩ : Fin 4096) n) :=
  View.ld_unit_apply_of _ _ _ _ _ _ (by intro a; fin_cases a <;> simp <;> rfl)

theorem w_ld3072 (k : Fin 1024) (n : Fin 2048) : (View.ld w (Rect.unit ![0, 3072, 0] ![1, 1024, 2048] inb_S1x4096x2048_S1x1024x2048_0_3072_0)) (ix3 0 k n) = w (ix3 0 (⟨3072 + k.val, by omega⟩ : Fin 4096) n) :=
  View.ld_unit_apply_of _ _ _ _ _ _ (by intro a; fin_cases a <;> simp <;> rfl)

theorem q_ld0 (r i : Fin 256) : (View.ld q (Rect.unit ![0, 0] ![256, 256] inb_S256x1024_S256x256_0_0)) (ix2 r i) = q (ix2 r (⟨0 + i.val, by omega⟩ : Fin 1024)) :=
  View.ld_unit_apply_of _ _ _ _ _ _ (by intro a; fin_cases a <;> simp <;> rfl)

theorem q_ld256 (r i : Fin 256) : (View.ld q (Rect.unit ![0, 256] ![256, 256] inb_S256x1024_S256x256_0_256)) (ix2 r i) = q (ix2 r (⟨256 + i.val, by omega⟩ : Fin 1024)) :=
  View.ld_unit_apply_of _ _ _ _ _ _ (by intro a; fin_cases a <;> simp <;> rfl)

theorem q_ld512 (r i : Fin 256) : (View.ld q (Rect.unit ![0, 512] ![256, 256] inb_S256x1024_S256x256_0_512)) (ix2 r i) = q (ix2 r (⟨512 + i.val, by omega⟩ : Fin 1024)) :=
  View.ld_unit_apply_of _ _ _ _ _ _ (by intro a; fin_cases a <;> simp <;> rfl)

theorem q_ld768 (r i : Fin 256) : (View.ld q (Rect.unit ![0, 768] ![256, 256] inb_S256x1024_S256x256_0_768)) (ix2 r i) = q (ix2 r (⟨768 + i.val, by omega⟩ : Fin 1024)) :=
  View.ld_unit_apply_of _ _ _ _ _ _ (by intro a; fin_cases a <;> simp <;> rfl)

theorem kv_ld0 (p i : Fin 256) : (View.ld kv (Rect.unit ![0, 0, 0] ![1, 256, 256] inb_S1x256x2048_S1x256x256_0_0_0)) (ix3 0 p i) = kv (ix3 0 p (⟨0 + i.val, by omega⟩ : Fin 2048)) :=
  View.ld_unit_apply_of _ _ _ _ _ _ (by intro a; fin_cases a <;> simp <;> rfl)

theorem kv_ld256 (p i : Fin 256) : (View.ld kv (Rect.unit ![0, 0, 256] ![1, 256, 256] inb_S1x256x2048_S1x256x256_0_0_256)) (ix3 0 p i) = kv (ix3 0 p (⟨256 + i.val, by omega⟩ : Fin 2048)) :=
  View.ld_unit_apply_of _ _ _ _ _ _ (by intro a; fin_cases a <;> simp <;> rfl)

theorem kv_ld512 (p i : Fin 256) : (View.ld kv (Rect.unit ![0, 0, 512] ![1, 256, 256] inb_S1x256x2048_S1x256x256_0_0_512)) (ix3 0 p i) = kv (ix3 0 p (⟨512 + i.val, by omega⟩ : Fin 2048)) :=
  View.ld_unit_apply_of _ _ _ _ _ _ (by intro a; fin_cases a <;> simp <;> rfl)

theorem kv_ld768 (p i : Fin 256) : (View.ld kv (Rect.unit ![0, 0, 768] ![1, 256, 256] inb_S1x256x2048_S1x256x256_0_0_768)) (ix3 0 p i) = kv (ix3 0 p (⟨768 + i.val, by omega⟩ : Fin 2048)) :=
  View.ld_unit_apply_of _ _ _ _ _ _ (by intro a; fin_cases a <;> simp <;> rfl)

theorem kv_ld1024 (p i : Fin 256) : (View.ld kv (Rect.unit ![0, 0, 1024] ![1, 256, 256] inb_S1x256x2048_S1x256x256_0_0_1024)) (ix3 0 p i) = kv (ix3 0 p (⟨1024 + i.val, by omega⟩ : Fin 2048)) :=
  View.ld_unit_apply_of _ _ _ _ _ _ (by intro a; fin_cases a <;> simp <;> rfl)

theorem kv_ld1280 (p i : Fin 256) : (View.ld kv (Rect.unit ![0, 0, 1280] ![1, 256, 256] inb_S1x256x2048_S1x256x256_0_0_1280)) (ix3 0 p i) = kv (ix3 0 p (⟨1280 + i.val, by omega⟩ : Fin 2048)) :=
  View.ld_unit_apply_of _ _ _ _ _ _ (by intro a; fin_cases a <;> simp <;> rfl)

theorem kv_ld1536 (p i : Fin 256) : (View.ld kv (Rect.unit ![0, 0, 1536] ![1, 256, 256] inb_S1x256x2048_S1x256x256_0_0_1536)) (ix3 0 p i) = kv (ix3 0 p (⟨1536 + i.val, by omega⟩ : Fin 2048)) :=
  View.ld_unit_apply_of _ _ _ _ _ _ (by intro a; fin_cases a <;> simp <;> rfl)

theorem kv_ld1792 (p i : Fin 256) : (View.ld kv (Rect.unit ![0, 0, 1792] ![1, 256, 256] inb_S1x256x2048_S1x256x256_0_0_1792)) (ix3 0 p i) = kv (ix3 0 p (⟨1792 + i.val, by omega⟩ : Fin 2048)) :=
  View.ld_unit_apply_of _ _ _ _ _ _ (by intro a; fin_cases a <;> simp <;> rfl)

/-- One head of a block's rows, at any name for the entry. -/
theorem head_eq (o : ℕ) (ho : o % 256 = 0) (hb : o < 1024) (r : Fin 256) (e : Fin 256) (j : Fin 1024) (hj : j.val = o + e.val)
    (Q : Fin 256 → EReal) (K V : Fin 256 → Fin 256 → EReal)
    (hQ : ∀ i, Q i = q (ix2 r (⟨o + i.val, by omega⟩ : Fin 1024)))
    (hK : ∀ p i, K p i = kv (ix3 0 p (⟨o + i.val, by omega⟩ : Fin 2048)))
    (hV : ∀ p i, V p i = kv (ix3 0 p (⟨1024 + (o + i.val), by omega⟩ : Fin 2048))) :
    att Q K V e = mem (fun j => q (ix2 r j)) (fun p j => kv (ix3 0 p j)) j := by
  have hd : j.val / 256 * 256 = o := by omega
  have he : e = (⟨j.val % 256, by omega⟩ : Fin 256) := Fin.ext (by show e.val = j.val % 256; omega)
  have eQ : Q = fun i => q (ix2 r (⟨j.val / 256 * 256 + i.val, by omega⟩ : Fin 1024)) := funext fun i =>
    (hQ i).trans (congrArg (fun a => q (ix2 r a)) (Fin.ext (by show o + i.val = j.val / 256 * 256 + i.val; omega)))
  have eK : K = fun p i => kv (ix3 0 p (⟨j.val / 256 * 256 + i.val, by omega⟩ : Fin 2048)) := funext fun p => funext fun i =>
    (hK p i).trans (congrArg (fun a => kv (ix3 0 p a)) (Fin.ext (by show o + i.val = j.val / 256 * 256 + i.val; omega)))
  have eV : V = fun p i => kv (ix3 0 p (⟨1024 + (j.val / 256 * 256 + i.val), by omega⟩ : Fin 2048)) := funext fun p => funext fun i =>
    (hV p i).trans (congrArg (fun a => kv (ix3 0 p a)) (Fin.ext (by show 1024 + (o + i.val) = 1024 + (j.val / 256 * 256 + i.val); omega)))
  unfold mem
  rw [← eQ, ← eK, ← eV, ← he]

/-- The memory's rows are the four heads. -/
theorem mem_at (r : Fin 256) (j : Fin 1024) : memBlk q kv (ix2 r j) = mem (fun j => q (ix2 r j)) (fun p j => kv (ix3 0 p j)) j := by
  unfold memBlk
  refine (OutPay.heads _ _ _ _ _ _ _ _ r j).trans ?_
  have hj := j.isLt
  have hv : ∀ (o : ℕ) (V : Fin 256 → Fin 256 → EReal) (h : ∀ p i, 1024 + o + (i : Fin 256).val < 2048) (h' : ∀ p i, 1024 + (o + (i : Fin 256).val) < 2048),
      (∀ p i, V p i = kv (ix3 0 p (⟨1024 + o + i.val, h p i⟩ : Fin 2048))) → ∀ p i, V p i = kv (ix3 0 p (⟨1024 + (o + i.val), h' p i⟩ : Fin 2048)) :=
    fun o V h h' hp p i => (hp p i).trans (congrArg (fun a => kv (ix3 0 p a)) (Fin.ext (Nat.add_assoc _ _ _)))
  by_cases h0 : j.val < 256
  · rw [dif_pos h0]
    exact (OutPay.head0 _ _ _ r _).trans (head_eq q kv 0 rfl (by omega) r _ j (by simp) _ _ _ (q_ld0 q r) (kv_ld0 kv) (hv 0 _ _ _ (kv_ld1024 kv)))
  rw [dif_neg h0]
  by_cases h1 : j.val - 256 < 256
  · rw [dif_pos h1]
    exact (OutPay.head1 _ _ _ r _).trans (head_eq q kv 256 rfl (by omega) r _ j (by show j.val = 256 + (j.val - 256); omega) _ _ _ (q_ld256 q r) (kv_ld256 kv) (hv 256 _ _ _ (kv_ld1280 kv)))
  rw [dif_neg h1]
  by_cases h2 : j.val - 256 - 256 < 256
  · rw [dif_pos h2]
    exact (OutPay.head1 _ _ _ r _).trans (head_eq q kv 512 rfl (by omega) r _ j (by show j.val = 512 + (j.val - 256 - 256); omega) _ _ _ (q_ld512 q r) (kv_ld512 kv) (hv 512 _ _ _ (kv_ld1536 kv)))
  rw [dif_neg h2]
  exact (OutPay.head1 _ _ _ r _).trans (head_eq q kv 768 rfl (by omega) r _ j (by show j.val = 768 + (j.val - 256 - 256 - 256); omega) _ _ _ (q_ld768 q r) (kv_ld768 kv) (hv 768 _ _ _ (kv_ld1792 kv)))

/-- The branches' row before the memory's, -/
theorem cat_lo (x : Fin 3072 → EReal) (u : Fin 1024 → EReal) (k : Fin 4096) (k' : Fin 3072) (h : k.val = k'.val) : cat x u k = x k' := by
  unfold cat
  rw [dif_pos (h ▸ k'.isLt)]
  exact congrArg x (Fin.ext h)

/-- and the memory's. -/
theorem cat_hi (x : Fin 3072 → EReal) (u : Fin 1024 → EReal) (k : Fin 4096) (k' : Fin 1024) (h : k.val = 3072 + k'.val) : cat x u k = u k' := by
  unfold cat
  rw [dif_neg (by omega)]
  exact congrArg u (Fin.ext (by show k.val - 3072 = k'.val; omega))

/-- A block's projection, row by row. -/
theorem ys_at (r : Fin 256) (z : Fin 4096 → EReal)
    (h0 : ∀ k : Fin 1024, z0 (ix2 r k) = z (⟨0 * 1024 + k.val, by omega⟩ : Fin 4096))
    (h1 : ∀ k : Fin 1024, z1 (ix2 r k) = z (⟨1 * 1024 + k.val, by omega⟩ : Fin 4096))
    (h2 : ∀ k : Fin 1024, z2 (ix2 r k) = z (⟨2 * 1024 + k.val, by omega⟩ : Fin 4096))
    (h3 : ∀ k : Fin 1024, z3 (ix2 r k) = z (⟨3 * 1024 + k.val, by omega⟩ : Fin 4096)) (n : Fin 2048) :
    ys x q z0 z1 z2 z3 kv w (ix2 r n) =
      proj (cat (fun k => x (ix2 r k)) (mem (fun j => q (ix2 r j)) (fun p j => kv (ix3 0 p j)))) z (fun k n => w (ix3 0 k n)) n := by
  have t3 : ∀ a a' b b' d d' : EReal, a = a' → b = b' → d = d' → term a b d = term a' b' d' := by
    intro a a' b b' d d' ha hb hd
    rw [ha, hb, hd]
  refine Eq.trans (b := k0_pay24 (F := Ideal) (three x z0 z1 z2 w) (k0_pay16 z3) (memBlk q kv)
    (View.ld w (Rect.unit ![0, 3072, 0] ![1, 1024, 2048] inb_S1x4096x2048_S1x1024x2048_0_3072_0)) (ix2 r n)) ?_ ?_
  · unfold ys k0_pay1
    pointwise
  refine (OutPay.fourth _ _ _ _ r n).trans ?_
  unfold proj
  rw [sum_four]
  refine congrArg₂ _ ?_ (Finset.sum_congr rfl fun k _ => t3 _ _ _ _ _ _ ((mem_at q kv r k).trans (cat_hi _ _ _ _ rfl).symm) (h3 k) (w_ld3072 w k n))
  unfold three
  refine (OutPay.third _ _ _ _ r n).trans ?_
  refine congrArg₂ _ ?_ (Finset.sum_congr rfl fun k _ => t3 _ _ _ _ _ _ ((x_ld2048 x r k).trans (cat_lo (fun k => x (ix2 r k)) _ _ (⟨2048 + k.val, by omega⟩ : Fin 3072) rfl).symm) (h2 k) (w_ld2048 w k n))
  refine (OutPay.second _ _ _ _ r n).trans ?_
  refine congrArg₂ _ ?_ (Finset.sum_congr rfl fun k _ => t3 _ _ _ _ _ _ ((x_ld1024 x r k).trans (cat_lo (fun k => x (ix2 r k)) _ _ (⟨1024 + k.val, by omega⟩ : Fin 3072) rfl).symm) (h1 k) (w_ld1024 w k n))
  refine (OutPay.first _ _ _ r n).trans ?_
  exact Finset.sum_congr rfl fun k _ => t3 _ _ _ _ _ _ ((x_ld0 x r k).trans (cat_lo (fun k => x (ix2 r k)) _ _ (⟨0 + k.val, by omega⟩ : Fin 3072) rfl).symm) (h0 k) (w_ld0 w k n)

end Cert.Proof.OutYs

end
-- ==== Proof.OutRow.lean ====
/- What a point of the output call leaves: the projection of its rows in scratch, the norm of the rows before in the results. -/
module

public import proofs.«01_k».proof.Proof.OutKer
public import proofs.«01_k».proof.Proof.OutYs
public import Idealize.ShloMosaic.Lib.Pipeline.ValueKit
public import Idealize.ShloMosaic.Lib.Pipeline.ValueKit.Held
public import Idealize.ShloMosaic.Lib.Pipeline.ReadBack
public import Idealize.ShloMosaic.Lib.Pointwise

@[expose] public section

set_option maxRecDepth 16384

noncomputable section

namespace Cert.Proof.OutRow

open Idealize.ShloMosaic Idealize.ShloMosaic.TcCoe Idealize.SL.Sem
open Cert.GateOutIdeal Cert.GateOutIdeal.Gen Cert.Proof.OutSpec Cert.Proof.OutKer Cert.Proof.OutYs

variable (m : (ℓ : Loc nD τ sig) → Buf (Elt Ideal) ℓ) (c : Dev nD)

/-- A point leaves its projection. -/
theorem kept (t : Fin cfg0.N) (i : S256x2048.Idx) : (outsAt0 m c t.val t.isLt).2.2 i =
    ys (xAt m c t) (qAt m c t) (z0At m c t) (z1At m c t) (z2At m c t) (z3At m c t) (kvAt m c t) (wAt m c t) i := by
  by_cases h0 : t.val % 65 = 0
  · rw [outsAt0_A m c t h0]
    frame_out
    rfl
  · rw [outsAt0_B m c t h0]
    frame_out
    rfl

/-- Four quarters of a block's rows, stored one after the other: an entry is its quarter's. -/
theorem canon_rows {e : EltTy} (p0 p1 p2 p3 : S64x2048.Idx → Elt Ideal e) (i0 i1 i2 i3) (r : Fin 256) (n : Fin 2048) (v : Elt Ideal e)
    (h : ∀ (j : Fin 4) (r' : Fin 64), r.val = 64 * j.val + r'.val → (![p0, p1, p2, p3] : Fin 4 → _) j (ix2 r' n) = v) :
    View.canon (Val := Elt Ideal) (s := S256x2048) (e := e)
      [⟨Rect.unit ![192, 0] ![64, 2048] i3, p3⟩, ⟨Rect.unit ![128, 0] ![64, 2048] i2, p2⟩,
        ⟨Rect.unit ![64, 0] ![64, 2048] i1, p1⟩, ⟨Rect.unit ![0, 0] ![64, 2048] i0, p0⟩] (ix2 r n) = v := by
  have at_j : ∀ (j : Fin 4) (p : S64x2048.Idx → Elt Ideal e), p = (![p0, p1, p2, p3] : Fin 4 → _) j →
      View.TileAt (Val := Elt Ideal) (S := S256x2048) (e := e) (ix2 r n) ![64 * j.val, 0] ![64, 2048] p v := by
    intro j p hp x hx
    subst hp
    obtain ⟨r', n', rfl⟩ : ∃ (r' : Fin 64) (n' : Fin 2048), x = ix2 r' n' := ⟨x 0, x 1, eq_ix2 x⟩
    have e1 : n.val = 0 + n'.val := hx 1
    have en : n' = n := Fin.ext (by omega)
    subst en
    exact h j r' (hx 0)
  have hit : ∀ (o : ℕ) (i), o ≤ r.val ∧ r.val < o + 64 → (ix2 r n : S256x2048.Idx) ∈ (Rect.unit (s := S256x2048) ![o, 0] ![64, 2048] i).set :=
    fun o i ho => Rect.mem_set_unit.mpr fun a => by
      match a with
      | 0 => exact ho
      | 1 => exact ⟨Nat.zero_le _, by show n.val < 0 + 2048; omega⟩
  refine View.canon_eq_of_allAt _ _ _ ?_ ?_
  · by_cases h0 : r.val < 64
    · exact ⟨⟨Rect.unit ![0, 0] ![64, 2048] i0, p0⟩, by simp, hit 0 i0 (by omega)⟩
    by_cases h1 : r.val < 128
    · exact ⟨⟨Rect.unit ![64, 0] ![64, 2048] i1, p1⟩, by simp, hit 64 i1 (by omega)⟩
    by_cases h2 : r.val < 192
    · exact ⟨⟨Rect.unit ![128, 0] ![64, 2048] i2, p2⟩, by simp, hit 128 i2 (by omega)⟩
    · exact ⟨⟨Rect.unit ![192, 0] ![64, 2048] i3, p3⟩, by simp, hit 192 i3 (by omega)⟩
  exact View.allAt_cons_unit _ _ _ _ _ (at_j 3 p3 rfl) (View.allAt_cons_unit _ _ _ _ _ (at_j 2 p2 rfl)
    (View.allAt_cons_unit _ _ _ _ _ (at_j 1 p1 rfl) (View.allAt_cons_unit _ _ _ _ _ (at_j 0 p0 rfl) (View.allAt_nil _ _))))

/-- The row of a block, normed. -/
def row (x y : Vec Ideal S256x2048 .f32) (g b : Vec Ideal S1x2048 .f32) (r : Fin 256) (n : Fin 2048) : EReal :=
  norm (OutSpec.sum (fun n => x (ix2 r n)) (fun n => y (ix2 r n))) (fun n => g (ix2 0 n)) (fun n => b (ix2 0 n)) n

/-- A quarter of a block's rows, read. -/
theorem ld_row (x : Vec Ideal S256x2048 .f32) (o : ℕ) (i) (r : Fin 256) (r' : Fin 64) (h : r.val = o + r'.val) (n : Fin 2048) :
    View.ld x (Rect.unit ![o, 0] ![64, 2048] i) (ix2 r' n) = x (ix2 r n) :=
  View.ld_unit_apply_of _ _ _ _ _ _ (by intro a; fin_cases a <;> simp <;> first | exact h | rfl)

/-- The norm of a quarter's rows is that of the block's. -/
theorem row_of (x y : Vec Ideal S256x2048 .f32) (g b : Vec Ideal S1x2048 .f32) (o : ℕ) (i) (r : Fin 256) (r' : Fin 64)
    (h : r.val = o + r'.val) (n : Fin 2048) :
    norm (OutSpec.sum (fun n => View.ld x (Rect.unit ![o, 0] ![64, 2048] i) (ix2 r' n))
      (fun n => View.ld y (Rect.unit ![o, 0] ![64, 2048] i) (ix2 r' n))) (fun n => g (ix2 0 n)) (fun n => b (ix2 0 n)) n = row x y g b r n := by
  have ex : (fun n => View.ld x (Rect.unit ![o, 0] ![64, 2048] i) (ix2 r' n)) = fun n => x (ix2 r n) := funext (ld_row x o i r r' h)
  have ey : (fun n => View.ld y (Rect.unit ![o, 0] ![64, 2048] i) (ix2 r' n)) = fun n => y (ix2 r n) := funext (ld_row y o i r r' h)
  unfold row
  exact congrArg₂ (fun a b' => norm (OutSpec.sum a b') (fun n => g (ix2 0 n)) (fun n => b (ix2 0 n)) n) ex ey

/-- A later point leaves the norm of the rows before it, -/
theorem wide (t : Fin cfg0.N) (h0 : ¬t.val % 65 = 0) (r : Fin 256) (n : Fin 2048) :
    (outsAt0 m c t.val t.isLt).1 (ix2 r n) =
      row (rAt m c t) (outsAt0 m c (t.val - 1) (by omega)).2.2 (gAt m c t) (bAt m c t) r n := by
  rw [outsAt0_B m c t h0]
  frame_open
  simp (disch := decide) only [↓ View.readCov_skip, ↓ View.readCov_cons_toLoadRect, ↓ View.readCov_fill]
  frame_out
  simp only [read_unread_whole]
  refine canon_rows _ _ _ _ _ _ _ _ r n _ fun j r' h => ?_
  match j, h with
  | 0, h => exact (OutPay.norm0 _ _ _ _ r' n).trans (row_of (rAt m c t) _ _ _ 0 _ r r' h n)
  | 1, h => exact (OutPay.norm1 _ _ _ _ r' n).trans (row_of (rAt m c t) _ _ _ 64 _ r r' h n)
  | 2, h => exact (OutPay.norm2 _ _ _ _ r' n).trans (row_of (rAt m c t) _ _ _ 128 _ r r' h n)
  | 3, h => exact (OutPay.norm3 _ _ _ _ r' n).trans (row_of (rAt m c t) _ _ _ 192 _ r r' h n)

/-- in both types. -/
theorem narrow (t : Fin cfg0.N) (h0 : ¬t.val % 65 = 0) (r : Fin 256) (n : Fin 2048) :
    (outsAt0 m c t.val t.isLt).2.1 (ix2 r n) =
      row (rAt m c t) (outsAt0 m c (t.val - 1) (by omega)).2.2 (gAt m c t) (bAt m c t) r n := by
  rw [outsAt0_B m c t h0]
  frame_open
  simp (disch := decide) only [↓ View.readCov_skip, ↓ View.readCov_cons_toLoadRect, ↓ View.readCov_fill]
  frame_out
  simp only [read_unread_whole]
  refine canon_rows _ _ _ _ _ _ _ _ r n _ fun j r' h => ?_
  match j, h with
  | 0, h => exact (OutPay.narrow0 _ _ _ _ r' n).trans (row_of (rAt m c t) _ _ _ 0 _ r r' h n)
  | 1, h => exact (OutPay.narrow1 _ _ _ _ r' n).trans (row_of (rAt m c t) _ _ _ 64 _ r r' h n)
  | 2, h => exact (OutPay.narrow2 _ _ _ _ r' n).trans (row_of (rAt m c t) _ _ _ 128 _ r r' h n)
  | 3, h => exact (OutPay.narrow3 _ _ _ _ r' n).trans (row_of (rAt m c t) _ _ _ 192 _ r r' h n)

end Cert.Proof.OutRow

end
-- ==== Proof.OutAll.lean ====
/- The output call's two arrays: every block is the norm of its rows, so the arrays are the norm of every row. -/
module

public import proofs.«01_k».proof.Proof.OutRow
public import Idealize.ShloMosaic.Lib.Pipeline.ValueKit
public import Idealize.ShloMosaic.Lib.Pipeline.ValueKit.Held
public import Idealize.ShloMosaic.Lib.Pointwise

@[expose] public section

set_option maxRecDepth 16384

noncomputable section

namespace Cert.Proof.OutAll

open Idealize.ShloMosaic Idealize.ShloMosaic.TcCoe Idealize.SL.Sem
open Cert.Proof.OutSpec

section Spec

variable (a0 : Vec Ideal (⟨3, ![4, 4096, 3072]⟩ : Shape) .bf16) (a1 : Vec Ideal (⟨3, ![4, 4096, 11264]⟩ : Shape) .bf16)
  (a2 : Vec Ideal (⟨3, ![4, 256, 8192]⟩ : Shape) .bf16) (a3 : Vec Ideal (⟨3, ![4, 4096, 2048]⟩ : Shape) .f32)
  (a4 : Vec Ideal (⟨3, ![4, 4096, 2048]⟩ : Shape) .f32) (a5 a6 : Vec Ideal (⟨2, ![4, 2048]⟩ : Shape) .f32)

/-- A row's attention over the memory. -/
def M (b : Fin 4) (s : Fin 4096) : Fin 1024 → EReal :=
  mem (fun j => a1 (ix3 b s (⟨6144 + j.val, by omega⟩ : Fin 11264))) (fun p j => a2 (ix3 b p (⟨6144 + j.val, by omega⟩ : Fin 8192)))

/-- A row's gates. -/
def Z (b : Fin 4) (s : Fin 4096) (k : Fin 4096) : EReal := a1 (ix3 b s (⟨7168 + k.val, by omega⟩ : Fin 11264))

/-- A row's projection. -/
def Y (b : Fin 4) (s : Fin 4096) : Fin 2048 → EReal :=
  proj (cat (fun k => a0 (ix3 b s k)) (M a1 a2 b s)) (Z a1 b s) (fun k n => a3 (ix3 3 k n))

/-- A row of the result. -/
def O (b : Fin 4) (s : Fin 4096) : Fin 2048 → EReal :=
  norm (OutSpec.sum (fun n => a4 (ix3 b s n)) (Y a0 a1 a2 a3 b s)) (fun n => a5 (ix2 3 n)) (fun n => a6 (ix2 3 n))

/-- The rows one under the other. -/
def G : Vec Ideal (⟨2, ![16384, 2048]⟩ : Shape) .f32 := fun y =>
  O a0 a1 a2 a3 a4 a5 a6 (⟨(y 0).val / 4096, by have : (y 0).val < 16384 := (y 0).isLt; omega⟩ : Fin 4)
    (⟨(y 0).val % 4096, by omega⟩ : Fin 4096) (⟨(y 1).val, (y 1).isLt⟩ : Fin 2048)

/-- The same in the narrower type. -/
def Gn : Vec Ideal (⟨2, ![16384, 2048]⟩ : Shape) .bf16 := G a0 a1 a2 a3 a4 a5 a6

end Spec

open Cert.GateOutIdeal Cert.GateOutIdeal.Gen Cert.Proof.OutKer Cert.Proof.OutYs Cert.Proof.OutRow

variable (m : (ℓ : Loc nD τ sig) → Buf (Elt Ideal) ℓ) (c : Dev nD)

/-- What a point leaves in scratch. -/
theorem kept_Y (t : Fin cfg0.N) (r : Fin 256) (n : Fin 2048) : (outsAt0 m c t.val t.isLt).2.2 (ix2 r n) =
    Y (m ((c : Thread nD τ).loc main_arg0)) (m ((c : Thread nD τ).loc main_arg1)) (m ((c : Thread nD τ).loc main_arg2))
      (m ((c : Thread nD τ).loc main_arg3)) (bt t r) (st t r) n := by
  refine (kept m c t (ix2 r n)).trans ((ys_at _ _ _ _ _ _ _ _ r (Z (m ((c : Thread nD τ).loc main_arg1)) (bt t r) (st t r))
    (z0_read m c t r) (z1_read m c t r) (z2_read m c t r) (z3_read m c t r) n).trans ?_)
  unfold Y M
  have e0 : (fun k => xAt m c t (ix2 r k)) = fun k => m ((c : Thread nD τ).loc main_arg0) (ix3 (bt t r) (st t r) k) := funext (x_read m c t r)
  have e1 : (fun j => qAt m c t (ix2 r j)) =
    fun j : Fin 1024 => m ((c : Thread nD τ).loc main_arg1) (ix3 (bt t r) (st t r) (⟨6144 + j.val, by omega⟩ : Fin 11264)) := funext (q_read m c t r)
  have e2 : (fun p j => kvAt m c t (ix3 0 p j)) =
    fun (p : Fin 256) (j : Fin 2048) => m ((c : Thread nD τ).loc main_arg2) (ix3 (bt t r) p (⟨6144 + j.val, by omega⟩ : Fin 8192)) :=
    funext fun p => funext (kv_read m c t r p)
  have e3 : (fun k n => wAt m c t (ix3 0 k n)) = fun (k : Fin 4096) (n : Fin 2048) => m ((c : Thread nD τ).loc main_arg3) (ix3 3 k n) :=
    funext fun k => funext (w_read m c t k)
  exact congrArg₂ (fun v w => proj v (Z (m ((c : Thread nD τ).loc main_arg1)) (bt t r) (st t r)) w n)
    (congrArg₂ cat e0 (congrArg₂ mem e1 e2)) e3

/-- The rows a later point norms. -/
theorem row_O (t : Fin cfg0.N) (h0 : ¬t.val % 65 = 0) (r : Fin 256) (n : Fin 2048) :
    row (rAt m c t) (outsAt0 m c (t.val - 1) (by omega)).2.2 (gAt m c t) (bAt m c t) r n =
      O (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6))
        (⟨((t.val - 1) * 256 + r.val) / 4096, by have := t.isLt; have : cfg0.N = 65 := rfl; omega⟩ : Fin 4)
        (⟨((t.val - 1) * 256 + r.val) % 4096, by omega⟩ : Fin 4096) n := by
  have hN : t.val < 65 := t.isLt
  have e4 : (fun n => rAt m c t (ix2 r n)) = fun n => m ((c : Thread nD τ).loc main_arg4) (ix3
      (⟨((t.val - 1) * 256 + r.val) / 4096, by omega⟩ : Fin 4) (⟨((t.val - 1) * 256 + r.val) % 4096, by omega⟩ : Fin 4096) n) :=
    funext (r_read m c t r)
  have e5 : (fun n => gAt m c t (ix2 0 n)) = fun n => m ((c : Thread nD τ).loc main_arg5) (ix2 3 n) := funext (g_read m c t)
  have e6 : (fun n => bAt m c t (ix2 0 n)) = fun n => m ((c : Thread nD τ).loc main_arg6) (ix2 3 n) := funext (b_read m c t)
  have hb : bt (⟨t.val - 1, by omega⟩ : Fin cfg0.N) r = (⟨((t.val - 1) * 256 + r.val) / 4096, by omega⟩ : Fin 4) :=
    Fin.ext (by show (min (t.val - 1) 63 * 256 + r.val) / 4096 = ((t.val - 1) * 256 + r.val) / 4096; rw [Nat.min_eq_left (by omega)])
  have hs : st (⟨t.val - 1, by omega⟩ : Fin cfg0.N) r = (⟨((t.val - 1) * 256 + r.val) % 4096, by omega⟩ : Fin 4096) :=
    Fin.ext (by show (min (t.val - 1) 63 * 256 + r.val) % 4096 = ((t.val - 1) * 256 + r.val) % 4096; rw [Nat.min_eq_left (by omega)])
  have ey : (fun n => (outsAt0 m c (t.val - 1) (by omega)).2.2 (ix2 r n)) = Y (m ((c : Thread nD τ).loc main_arg0))
      (m ((c : Thread nD τ).loc main_arg1)) (m ((c : Thread nD τ).loc main_arg2)) (m ((c : Thread nD τ).loc main_arg3))
      (⟨((t.val - 1) * 256 + r.val) / 4096, by omega⟩ : Fin 4) (⟨((t.val - 1) * 256 + r.val) % 4096, by omega⟩ : Fin 4096) :=
    funext fun n => (kept_Y m c (⟨t.val - 1, by omega⟩ : Fin cfg0.N) r n).trans (by rw [hb, hs])
  unfold row O
  exact congrFun (congr (congrArg₂ norm (congrArg₂ OutSpec.sum e4 ey) e5) e6) n

theorem later11 : ∀ t : Fin cfg0.N, win0_11.flush t = true → ¬t.val % 65 = 0 := (by decide +kernel : ∀ t : Fin grid0.N, _)
theorem later12 : ∀ t : Fin cfg0.N, win0_12.flush t = true → ¬t.val % 65 = 0 := (by decide +kernel : ∀ t : Fin grid0.N, _)

theorem final11 : (dats m 0 c).arrAt 11 cfg0.N =
    G (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (dats m 0 c).arrAt_eq_of_covers 11 _ (by decide +kernel) fun t hf y => ?_
  have h0 : ¬t.val % 65 = 0 := later11 t hf
  blk_simp
  rw [after0_11]
  have hN : t.val < 65 := t.isLt
  obtain ⟨r, n, rfl⟩ : ∃ (r : Fin 256) (n : Fin 2048), y = ix2 r n := ⟨y 0, y 1, eq_ix2 y⟩
  refine ((wide m c t h0 r n).trans (row_O m c t h0 r n)).trans ?_
  unfold G
  blk_ext [idx11]

theorem final12 : (dats m 0 c).arrAt 12 cfg0.N =
    Gn (m ((c : Thread nD τ).loc main_arg0)) (m ((c : Thread nD τ).loc main_arg1)) (m ((c : Thread nD τ).loc main_arg2))
      (m ((c : Thread nD τ).loc main_arg3)) (m ((c : Thread nD τ).loc main_arg4)) (m ((c : Thread nD τ).loc main_arg5))
      (m ((c : Thread nD τ).loc main_arg6)) := by
  refine (dats m 0 c).arrAt_eq_of_covers 12 _ (by decide +kernel) fun t hf y => ?_
  have h0 : ¬t.val % 65 = 0 := later12 t hf
  blk_simp
  rw [after0_12]
  have hN : t.val < 65 := t.isLt
  obtain ⟨r, n, rfl⟩ : ∃ (r : Fin 256) (n : Fin 2048), y = ix2 r n := ⟨y 0, y 1, eq_ix2 y⟩
  refine ((narrow m c t h0 r n).trans (row_O m c t h0 r n)).trans ?_
  unfold Gn G
  blk_ext [idx12]

end Cert.Proof.OutAll

end
-- ==== Proof.OutRef.lean ====
/- The output call's reference, stage by stage, down to the norm of every row. -/
module

public import proofs.«01_k».proof.Proof.Gen.RefGateOutIdeal.Run
public import proofs.«01_k».proof.Proof.OutAll
public import Idealize.ShloMosaic.Lib.Pointwise
public import Idealize.ShloMosaic.Lib.IdealHost

@[expose] public section

set_option maxRecDepth 16384

noncomputable section

namespace Cert.Proof.OutRef

open Idealize.ShloMosaic Idealize.ShloMosaic.TcCoe Idealize.SL.Sem
open Cert.RefGateOutIdeal Cert.RefGateOutIdeal.Gen Cert.Proof.OutSpec

/-- The queries, a head a slab. -/
def queries (a1 : Vec Ideal S4x4096x11264 .bf16) : Vec Ideal S4x4096x4x256 .f32 :=
  shapeCast _ (extractStridedSlice S4x4096x1024 ![0, 0, 6144] (extf (F := Ideal) (φ := .bf16) .f32 a1 bitsLt_bf16_f32)
    slices_S4x4096x11264_S4x4096x1024_0_0_6144) shapeCasts_S4x4096x1024_S4x4096x4x256

theorem queries_at (a1 : Vec Ideal S4x4096x11264 .bf16) (b : Fin 4) (s : Fin 4096) (h : Fin 4) (i : Fin 256) :
    queries a1 (ix4 b s h i) = a1 (ix3 b s (⟨6144 + (h.val * 256 + i.val), by omega⟩ : Fin 11264)) := by
  unfold queries
  pointwise

/-- The keys, -/
def keys (a2 : Vec Ideal S4x256x8192 .bf16) : Vec Ideal S4x256x4x256 .f32 :=
  shapeCast _ (extractStridedSlice S4x256x1024 ![0, 0, 0] (extractStridedSlice S4x256x2048 ![0, 0, 6144]
    (extf (F := Ideal) (φ := .bf16) .f32 a2 bitsLt_bf16_f32) slices_S4x256x8192_S4x256x2048_0_0_6144)
    slices_S4x256x2048_S4x256x1024_0_0_0) shapeCasts_S4x256x1024_S4x256x4x256

theorem keys_at (a2 : Vec Ideal S4x256x8192 .bf16) (b : Fin 4) (p : Fin 256) (h : Fin 4) (i : Fin 256) :
    keys a2 (ix4 b p h i) = a2 (ix3 b p (⟨6144 + (h.val * 256 + i.val), by omega⟩ : Fin 8192)) := by
  unfold keys
  pointwise

/-- and the values. -/
def vals (a2 : Vec Ideal S4x256x8192 .bf16) : Vec Ideal S4x256x4x256 .f32 :=
  shapeCast _ (extractStridedSlice S4x256x1024 ![0, 0, 1024] (extractStridedSlice S4x256x2048 ![0, 0, 6144]
    (extf (F := Ideal) (φ := .bf16) .f32 a2 bitsLt_bf16_f32) slices_S4x256x8192_S4x256x2048_0_0_6144)
    slices_S4x256x2048_S4x256x1024_0_0_1024) shapeCasts_S4x256x1024_S4x256x4x256

theorem vals_at (a2 : Vec Ideal S4x256x8192 .bf16) (b : Fin 4) (p : Fin 256) (h : Fin 4) (i : Fin 256) :
    vals a2 (ix4 b p h i) = a2 (ix3 b p (⟨6144 + (1024 + (h.val * 256 + i.val)), by omega⟩ : Fin 8192)) := by
  unfold vals
  pointwise

/-- The scores, -/
def scores (q : Vec Ideal S4x4096x4x256 .f32) (k : Vec Ideal S4x256x4x256 .f32) : FVec Ideal S4x4x4096x256 .f32 :=
  mulf (Host.dotGeneral (F := Ideal) (φ₁ := .f32) (φ₂ := .f32) dot_S4x4096x4x256_S4x256x4x256_S4x4x4096x256_3_3_1_1_02_02 none q k)
    (broadcastInDim S4x4x4096x256 ![] bcast_S_S4x4x4096x256 (constant (F := Ideal) S_ .f32 0x3D800000#32))

theorem scores_at (q : Vec Ideal S4x4096x4x256 .f32) (k : Vec Ideal S4x256x4x256 .f32) (b h : Fin 4) (s : Fin 4096) (p : Fin 256) :
    scores q k (ix4 b h s p) = score (fun i => q (ix4 b s h i)) (fun p i => k (ix4 b p h i)) p := by
  unfold scores score
  pointwise

/-- the largest of each row, -/
def largest (v : FVec Ideal S4x4x4096x256 .f32) : FVec Ideal S4x4x4096 .f32 :=
  Host.reduce (FloatOps.maximumf (F := Ideal)) v (constant (F := Ideal) S_ .f32 0xFF800000#32) reducesTo_S4x4x4096x256_S4x4x4096_d3 h_S_

theorem largest_at (v : FVec Ideal S4x4x4096x256 .f32) (b h : Fin 4) (s : Fin 4096) :
    largest v (ix3 b h s) = Finset.fold max (Ideal.ofBits FTy.f32 0xFF800000#32) (fun p => (v (ix4 b h s p) : EReal)) Finset.univ := by
  unfold largest
  pointwise

/-- which is never below the least of all values, -/
def capped (u : FVec Ideal S4x4x4096 .f32) : FVec Ideal S4x4x4096 .f32 :=
  maximumf (broadcastInDim S4x4x4096 ![] bcast_S_S4x4x4096 (constant (F := Ideal) S_ .f32 0xFF800000#32)) u

theorem capped_at (u : FVec Ideal S4x4x4096 .f32) (b h : Fin 4) (s : Fin 4096) :
    capped u (ix3 b h s) = max (Ideal.ofBits FTy.f32 0xFF800000#32) (u (ix3 b h s) : EReal) := by
  unfold capped
  pointwise

theorem max_fold (c : EReal) (f : Fin 256 → EReal) : max c (Finset.fold max c f Finset.univ) = Finset.fold max c f Finset.univ :=
  max_eq_right ((Finset.le_fold_max _).2 (Or.inl le_rfl))

/-- one after the other, -/
def tops (v : FVec Ideal S4x4x4096x256 .f32) : FVec Ideal S4x4x4096 .f32 := capped (largest v)

theorem tops_at (v : FVec Ideal S4x4x4096x256 .f32) (b h : Fin 4) (s : Fin 4096) :
    tops v (ix3 b h s) = Finset.fold max (Ideal.ofBits FTy.f32 0xFF800000#32) (fun p => (v (ix4 b h s p) : EReal)) Finset.univ := by
  unfold tops
  refine (capped_at _ b h s).trans ?_
  rw [largest_at]
  exact max_fold _ _

/-- the weights before they are scaled, -/
def weights (v : FVec Ideal S4x4x4096x256 .f32) (u : FVec Ideal S4x4x4096 .f32) : FVec Ideal S4x4x4096x256 .f32 :=
  Host.exp (subf v (broadcastInDim S4x4x4096x256 ![0, 1, 2, 3] bcast_S4x4x4096x1_S4x4x4096x256_0_1_2_3
    (broadcastInDim S4x4x4096x1 ![0, 1, 2] bcast_S4x4x4096_S4x4x4096x1_0_1_2 u)))

theorem weights_at (v : FVec Ideal S4x4x4096x256 .f32) (u : FVec Ideal S4x4x4096 .f32) (b h : Fin 4) (s : Fin 4096) (p : Fin 256) :
    weights v u (ix4 b h s p) = Ideal.exp (v (ix4 b h s p) - u (ix3 b h s)) := by
  unfold weights
  pointwise

/-- scaled, -/
def probs (v : FVec Ideal S4x4x4096x256 .f32) : FVec Ideal S4x4x4096x256 .f32 :=
  Host.divf v (broadcastInDim S4x4x4096x256 ![0, 1, 2, 3] bcast_S4x4x4096x1_S4x4x4096x256_0_1_2_3
    (broadcastInDim S4x4x4096x1 ![0, 1, 2] bcast_S4x4x4096_S4x4x4096x1_0_1_2
      (Host.reduceAdd v (constant (F := Ideal) S_ .f32 0x00000000#32) reducesTo_S4x4x4096x256_S4x4x4096_d3 h_S_)))

theorem probs_at (v : FVec Ideal S4x4x4096x256 .f32) (b h : Fin 4) (s : Fin 4096) (p : Fin 256) :
    probs v (ix4 b h s p) = Ideal.div (v (ix4 b h s p)) (∑ p, (v (ix4 b h s p) : EReal)) := by
  unfold probs
  pointwise

/-- and what they read from the values, a row's heads side by side. -/
def reads (v : Vec Ideal S4x256x4x256 .f32) (w : FVec Ideal S4x4x4096x256 .f32) : FVec Ideal S4x4096x1024 .f32 :=
  shapeCast _ (transpose S4x4096x4x256 [0, 3, 1, 2]
    (Host.dotGeneral (F := Ideal) (φ₁ := .f32) (φ₂ := .f32) dot_S4x256x4x256_S4x4x4096x256_S4x4x256x4096_1_3_3_2_02_01 none v w)
    transposes_S4x4x256x4096_S4x4096x4x256_0_3_1_2) shapeCasts_S4x4096x4x256_S4x4096x1024

theorem reads_at (v : Vec Ideal S4x256x4x256 .f32) (w : FVec Ideal S4x4x4096x256 .f32) (b : Fin 4) (s : Fin 4096) (j : Fin 1024) :
    reads v w (ix3 b s j) = ∑ p : Fin 256, (v (ix4 b p (⟨j.val / 256, by omega⟩ : Fin 4) (⟨j.val % 256, by omega⟩ : Fin 256)) : EReal) *
      w (ix4 b (⟨j.val / 256, by omega⟩ : Fin 4) s p) := by
  unfold reads
  pointwise

/-- The gates. -/
def gates (a1 : Vec Ideal S4x4096x11264 .bf16) : Vec Ideal S4x4096x4096 .f32 :=
  extractStridedSlice S4x4096x4096 ![0, 0, 7168] (extf (F := Ideal) (φ := .bf16) .f32 a1 bitsLt_bf16_f32) slices_S4x4096x11264_S4x4096x4096_0_0_7168

theorem gates_at (a1 : Vec Ideal S4x4096x11264 .bf16) (b : Fin 4) (s k : Fin 4096) : gates a1 (ix3 b s k) = OutAll.Z a1 b s k := by
  unfold gates OutAll.Z
  pointwise

/-- The branches side by side, the memory's last, -/
def side (a0 : Vec Ideal S4x4096x3072 .bf16) (u : FVec Ideal S4x4096x1024 .f32) : FVec Ideal S4x4096x4096 .f32 :=
  concatenate (α := EReal) S4x4096x4096 2 [⟨S4x4096x3072, (extf (F := Ideal) (φ := .bf16) .f32 a0 bitsLt_bf16_f32)⟩, ⟨S4x4096x1024, u⟩]
    concatenates_S4x4096x3072_S4x4096x1024_S4x4096x4096_d2

theorem side_at (a0 : Vec Ideal S4x4096x3072 .bf16) (u : FVec Ideal S4x4096x1024 .f32) (b : Fin 4) (s k : Fin 4096) :
    side a0 u (ix3 b s k) = cat (fun k => a0 (ix3 b s k)) (fun j => u (ix3 b s j)) k := by
  unfold side cat
  pointwise

/-- gated, -/
def gated (v z : FVec Ideal S4x4096x4096 .f32) : FVec Ideal S4x4096x4096 .f32 :=
  mulf v (mulf z (Host.divf (broadcastInDim S4x4096x4096 ![] bcast_S_S4x4096x4096 (constant (F := Ideal) S_ .f32 0x3F800000#32))
    (addf (broadcastInDim S4x4096x4096 ![] bcast_S_S4x4096x4096 (constant (F := Ideal) S_ .f32 0x3F800000#32)) (Host.exp (Host.negf z)))))

theorem gated_at (v z : FVec Ideal S4x4096x4096 .f32) (b : Fin 4) (s k : Fin 4096) :
    gated v z (ix3 b s k) = v (ix3 b s k) * (z (ix3 b s k) * Ideal.logistic (z (ix3 b s k))) := by
  unfold gated Ideal.logistic
  pointwise

/-- and projected. -/
def projected (v : FVec Ideal S4x4096x4096 .f32) (a3 : Vec Ideal S4x4096x2048 .f32) : FVec Ideal S4x4096x2048 .f32 :=
  Host.dotGeneral (F := Ideal) (φ₁ := .f32) (φ₂ := .f32) dot_S4x4096x4096_S4096x2048_S4x4096x2048_2_0_01_1_n_n none v
    (shapeCast _ (extractStridedSlice S1x4096x2048 ![3, 0, 0] a3 slices_S4x4096x2048_S1x4096x2048_3_0_0) shapeCasts_S1x4096x2048_S4096x2048)

theorem projected_at (v : FVec Ideal S4x4096x4096 .f32) (a3 : Vec Ideal S4x4096x2048 .f32) (b : Fin 4) (s : Fin 4096) (n : Fin 2048) :
    projected v a3 (ix3 b s n) = ∑ k : Fin 4096, (v (ix3 b s k) : EReal) * a3 (ix3 3 k n) := by
  unfold projected
  pointwise

/-- The rows before their norm. -/
def added (a4 y : FVec Ideal S4x4096x2048 .f32) : FVec Ideal S4x4096x2048 .f32 :=
  addf (mulf (broadcastInDim S4x4096x2048 ![] bcast_S_S4x4096x2048 (constant (F := Ideal) S_ .f32 0x3FD744FD#32)) a4) y

theorem added_at (a4 y : FVec Ideal S4x4096x2048 .f32) (b : Fin 4) (s : Fin 4096) (n : Fin 2048) :
    added a4 y (ix3 b s n) = OutSpec.sum (fun n => a4 (ix3 b s n)) (fun n => y (ix3 b s n)) n := by
  unfold added OutSpec.sum
  pointwise

/-- A row's mean. -/
def mean (v : FVec Ideal S4x4096x2048 .f32) : FVec Ideal S4x4096x1 .f32 :=
  Host.divf (broadcastInDim S4x4096x1 ![0, 1] bcast_S4x4096_S4x4096x1_0_1
    (Host.reduceAdd v (constant (F := Ideal) S_ .f32 0x00000000#32) reducesTo_S4x4096x2048_S4x4096_d2 h_S_))
    (broadcastInDim S4x4096x1 ![] bcast_S_S4x4096x1 (constant (F := Ideal) S_ .f32 0x45000000#32))

theorem mean_at (v : FVec Ideal S4x4096x2048 .f32) (b : Fin 4) (s : Fin 4096) :
    mean v (ix3 b s 0) = Ideal.div (∑ n, (v (ix3 b s n) : EReal)) (Ideal.ofBits FTy.f32 0x45000000#32) := by
  unfold mean
  pointwise

/-- A row without its mean. -/
def devs (v : FVec Ideal S4x4096x2048 .f32) (u : FVec Ideal S4x4096x1 .f32) : FVec Ideal S4x4096x2048 .f32 :=
  subf v (broadcastInDim S4x4096x2048 ![0, 1, 2] bcast_S4x4096x1_S4x4096x2048_0_1_2 u)

theorem devs_at (v : FVec Ideal S4x4096x2048 .f32) (u : FVec Ideal S4x4096x1 .f32) (b : Fin 4) (s : Fin 4096) (n : Fin 2048) :
    devs v u (ix3 b s n) = v (ix3 b s n) - u (ix3 b s 0) := by
  unfold devs
  pointwise

/-- The rows scaled by their spread. -/
def scaled (d : FVec Ideal S4x4096x2048 .f32) (u : FVec Ideal S4x4096x1 .f32) (a5 a6 : Vec Ideal S4x2048 .f32) : FVec Ideal S4x4096x2048 .f32 :=
  addf (mulf (mulf d (broadcastInDim S4x4096x2048 ![0, 1, 2] bcast_S4x4096x1_S4x4096x2048_0_1_2
      (Host.rsqrt (addf u (broadcastInDim S4x4096x1 ![] bcast_S_S4x4096x1 (constant (F := Ideal) S_ .f32 0x3727C5AC#32))))))
    (broadcastInDim S4x4096x2048 ![0, 1, 2] bcast_S1x1x2048_S4x4096x2048_0_1_2 (broadcastInDim S1x1x2048 ![2] bcast_S2048_S1x1x2048_2
      (shapeCast _ (extractStridedSlice S1x2048 ![3, 0] a5 slices_S4x2048_S1x2048_3_0) shapeCasts_S1x2048_S2048))))
    (broadcastInDim S4x4096x2048 ![0, 1, 2] bcast_S1x1x2048_S4x4096x2048_0_1_2 (broadcastInDim S1x1x2048 ![2] bcast_S2048_S1x1x2048_2
      (shapeCast _ (extractStridedSlice S1x2048 ![3, 0] a6 slices_S4x2048_S1x2048_3_0) shapeCasts_S1x2048_S2048)))

theorem scaled_at (d : FVec Ideal S4x4096x2048 .f32) (u : FVec Ideal S4x4096x1 .f32) (a5 a6 : Vec Ideal S4x2048 .f32) (b : Fin 4)
    (s : Fin 4096) (n : Fin 2048) : scaled d u a5 a6 (ix3 b s n) =
      d (ix3 b s n) * Ideal.rsqrt (u (ix3 b s 0) + Ideal.ofBits FTy.f32 0x3727C5AC#32) * a5 (ix2 3 n) + a6 (ix2 3 n) := by
  unfold scaled
  pointwise

/-- The norm of the rows. -/
def normed (v : FVec Ideal S4x4096x2048 .f32) (a5 a6 : Vec Ideal S4x2048 .f32) : FVec Ideal S4x4096x2048 .f32 :=
  scaled (devs v (mean v)) (mean (mulf (devs v (mean v)) (devs v (mean v)))) a5 a6

theorem normed_at (v : FVec Ideal S4x4096x2048 .f32) (a5 a6 : Vec Ideal S4x2048 .f32) (b : Fin 4) (s : Fin 4096) (n : Fin 2048) :
    normed v a5 a6 (ix3 b s n) = OutSpec.norm (fun n => v (ix3 b s n)) (fun n => a5 (ix2 3 n)) (fun n => a6 (ix2 3 n)) n := by
  have hd : ∀ n, devs v (mean v) (ix3 b s n) = dev (fun n => v (ix3 b s n)) n := fun n =>
    (devs_at v (mean v) b s n).trans (congrArg (fun a : EReal => v (ix3 b s n) - a) (mean_at v b s))
  unfold normed OutSpec.norm
  refine (scaled_at _ _ a5 a6 b s n).trans ?_
  rw [hd n, mean_at]
  have hs : ∀ j, mulf (devs v (mean v)) (devs v (mean v)) (ix3 b s j) =
      dev (fun n => v (ix3 b s n)) j * dev (fun n => v (ix3 b s n)) j := fun j => congrArg₂ (fun x y : EReal => x * y) (hd j) (hd j)
  rw [Finset.sum_congr rfl fun j _ => hs j]

/-- The memory's rows. -/
def memory (a1 : Vec Ideal S4x4096x11264 .bf16) (a2 : Vec Ideal S4x256x8192 .bf16) : FVec Ideal S4x4096x1024 .f32 :=
  reads (vals a2) (probs (weights (scores (queries a1) (keys a2)) (tops (scores (queries a1) (keys a2)))))

theorem memory_at (a1 : Vec Ideal S4x4096x11264 .bf16) (a2 : Vec Ideal S4x256x8192 .bf16) (b : Fin 4) (s : Fin 4096) (j : Fin 1024) :
    memory a1 a2 (ix3 b s j) = OutAll.M a1 a2 b s j := by
  unfold memory OutAll.M mem att
  refine (reads_at _ _ b s j).trans (Finset.sum_congr rfl fun p _ => ?_)
  have hq : ∀ p, scores (queries a1) (keys a2) (ix4 b (⟨j.val / 256, by omega⟩ : Fin 4) s p) =
      score (fun i => a1 (ix3 b s (⟨6144 + (j.val / 256 * 256 + i.val), by omega⟩ : Fin 11264)))
        (fun p i => a2 (ix3 b p (⟨6144 + (j.val / 256 * 256 + i.val), by omega⟩ : Fin 8192))) p := fun p =>
    (scores_at _ _ b _ s p).trans (congrArg₂ (fun Q K => score Q K p) (funext fun i => queries_at a1 b s _ i)
      (funext fun p => funext fun i => keys_at a2 b p _ i))
  have hw : ∀ p, weights (scores (queries a1) (keys a2)) (tops (scores (queries a1) (keys a2))) (ix4 b (⟨j.val / 256, by omega⟩ : Fin 4) s p) =
      weight (fun i => a1 (ix3 b s (⟨6144 + (j.val / 256 * 256 + i.val), by omega⟩ : Fin 11264)))
        (fun p i => a2 (ix3 b p (⟨6144 + (j.val / 256 * 256 + i.val), by omega⟩ : Fin 8192))) p := fun p => by
    refine (weights_at _ _ b _ s p).trans ?_
    rw [tops_at]
    unfold weight OutSpec.top
    rw [hq p, funext hq]
  rw [mul_comm, probs_at, hw p, Finset.sum_congr rfl fun p _ => hw p]
  exact congrArg _ (vals_at a2 b p _ _)

/-- The rows before their norm. -/
def before (a0 : Vec Ideal S4x4096x3072 .bf16) (a1 : Vec Ideal S4x4096x11264 .bf16) (a2 : Vec Ideal S4x256x8192 .bf16)
    (a3 a4 : Vec Ideal S4x4096x2048 .f32) : FVec Ideal S4x4096x2048 .f32 :=
  added a4 (projected (gated (side a0 (memory a1 a2)) (gates a1)) a3)

theorem before_at (a0 : Vec Ideal S4x4096x3072 .bf16) (a1 : Vec Ideal S4x4096x11264 .bf16) (a2 : Vec Ideal S4x256x8192 .bf16)
    (a3 a4 : Vec Ideal S4x4096x2048 .f32) (b : Fin 4) (s : Fin 4096) (n : Fin 2048) :
    before a0 a1 a2 a3 a4 (ix3 b s n) = OutSpec.sum (fun n => a4 (ix3 b s n)) (OutAll.Y a0 a1 a2 a3 b s) n := by
  unfold before
  refine (added_at _ _ b s n).trans (congrArg (fun y => OutSpec.sum (fun n => a4 (ix3 b s n)) y n) (funext fun n => ?_))
  refine (projected_at _ _ b s n).trans ?_
  unfold OutAll.Y proj term
  refine Finset.sum_congr rfl fun k _ => congrArg (fun v : EReal => v * a3 (ix3 3 k n)) ?_
  rw [gated_at, side_at, gates_at, funext (memory_at a1 a2 b s)]

/-- The reference's array, -/
def whole (a0 : Vec Ideal S4x4096x3072 .bf16) (a1 : Vec Ideal S4x4096x11264 .bf16) (a2 : Vec Ideal S4x256x8192 .bf16)
    (a3 a4 : Vec Ideal S4x4096x2048 .f32) (a5 a6 : Vec Ideal S4x2048 .f32) : Vec Ideal S16384x2048 .f32 :=
  shapeCast _ (normed (before a0 a1 a2 a3 a4) a5 a6) shapeCasts_S4x4096x2048_S16384x2048

/-- row by row. -/
theorem whole_eq (a0 : Vec Ideal S4x4096x3072 .bf16) (a1 : Vec Ideal S4x4096x11264 .bf16) (a2 : Vec Ideal S4x256x8192 .bf16)
    (a3 a4 : Vec Ideal S4x4096x2048 .f32) (a5 a6 : Vec Ideal S4x2048 .f32) :
    whole a0 a1 a2 a3 a4 a5 a6 = OutAll.G a0 a1 a2 a3 a4 a5 a6 := by
  funext y
  obtain ⟨r, n, rfl⟩ : ∃ (r : Fin 16384) (n : Fin 2048), y = ix2 r n := ⟨y 0, y 1, eq_ix2 y⟩
  refine Eq.trans (b := normed (before a0 a1 a2 a3 a4) a5 a6 (ix3 (⟨r.val / 4096, by omega⟩ : Fin 4) (⟨r.val % 4096, by omega⟩ : Fin 4096) n)) ?_ ?_
  · unfold whole
    pointwise
  refine (normed_at _ _ _ _ _ _).trans ?_
  rw [funext (before_at a0 a1 a2 a3 a4 _ _)]
  rfl

variable (m : (ℓ : Loc nD τ sig) → Buf (Elt Ideal) ℓ) (c : Dev nD)

/-- The reference's first result. -/
theorem first : Value.res_main_v65 (F := Ideal) m c =
    whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) := rfl

/-- The array in the narrower type. -/
theorem narrow_eq (v : Vec Ideal S16384x2048 .f32) : (truncf (F := Ideal) (φ := .f32) .bf16 v bitsLt_bf16_f32 : Vec Ideal S16384x2048 .bf16) = v := by
  funext y
  rw [eq_ix2 y]
  pointwise

/-- The reference's second result. -/
theorem second : Value.res_main_v66 (F := Ideal) m c =
    truncf (F := Ideal) (φ := .f32) .bf16 (whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6))) bitsLt_bf16_f32 := rfl

/-- The first result is the rows' norms, -/
theorem first_eq : Value.res_main_v65 (F := Ideal) m c =
    OutAll.G (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) :=
  (first m c).trans (whole_eq _ _ _ _ _ _ _)

/-- and the second the same in the narrower type. -/
theorem second_eq : Value.res_main_v66 (F := Ideal) m c =
    OutAll.Gn (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) :=
  (second m c).trans ((narrow_eq _).trans (whole_eq _ _ _ _ _ _ _))

end Cert.Proof.OutRef

end
-- ==== Proof.lean ====
/- The claims of the statement: the frames of the kernel at the machine's numbers and at the extended reals, the frame of the
   reference, and that kernel and reference leave the same array over the extended reals. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal.Run
public import proofs.«01_k».proof.Proof.Gen.ReferenceIdeal
public import proofs.«01_k».proof.Proof.Gen.Pre_rotary_tables
public import proofs.«01_k».proof.Proof.Gen.RetIn
public import proofs.«01_k».proof.Proof.Gen.RetIn.Frame
public import proofs.«01_k».proof.Proof.Gen.RetInIdeal
public import proofs.«01_k».proof.Proof.Gen.RetInIdeal.Frame
public import proofs.«01_k».proof.Proof.Gen.RetInIdeal.Value
public import proofs.«01_k».proof.Proof.Gen.RefRetInIdeal
public import proofs.«01_k».proof.Proof.Gen.RefRetInIdeal.Run
public import proofs.«01_k».proof.Proof.Gen.GdnIn
public import proofs.«01_k».proof.Proof.Gen.GdnIn.Frame
public import proofs.«01_k».proof.Proof.Gen.GdnInIdeal
public import proofs.«01_k».proof.Proof.Gen.GdnInIdeal.Frame
public import proofs.«01_k».proof.Proof.Gen.GdnInIdeal.Value
public import proofs.«01_k».proof.Proof.Gen.RefGdnInIdeal
public import proofs.«01_k».proof.Proof.Gen.RefGdnInIdeal.Run
public import proofs.«01_k».proof.Proof.Gen.MemKv
public import proofs.«01_k».proof.Proof.Gen.MemKv.Frame
public import proofs.«01_k».proof.Proof.Gen.MemKvIdeal
public import proofs.«01_k».proof.Proof.Gen.MemKvIdeal.Frame
public import proofs.«01_k».proof.Proof.Gen.MemKvIdeal.Value
public import proofs.«01_k».proof.Proof.Gen.RefMemKvIdeal
public import proofs.«01_k».proof.Proof.Gen.RefMemKvIdeal.Run
public import proofs.«01_k».proof.Proof.Gen.GateOut
public import proofs.«01_k».proof.Proof.Gen.GateOut.Frame
public import proofs.«01_k».proof.Proof.Gen.GateOutIdeal
public import proofs.«01_k».proof.Proof.Gen.GateOutIdeal.Frame
public import proofs.«01_k».proof.Proof.Gen.GateOutIdeal.Value
public import proofs.«01_k».proof.Proof.Gen.RefGateOutIdeal
public import proofs.«01_k».proof.Proof.Gen.RefGateOutIdeal.Run
public import proofs.«01_k».proof.Proof.KRet
public import proofs.«01_k».proof.Proof.RefRun
public import proofs.«01_k».proof.Proof.RefLoop
public import proofs.«01_k».proof.Proof.PreReal
public import proofs.«01_k».proof.Proof.RetIn
public import proofs.«01_k».proof.Proof.GdnIn
public import proofs.«01_k».proof.Proof.MemKv
public import proofs.«01_k».proof.Proof.OutAll
public import proofs.«01_k».proof.Proof.OutRef
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- The states of the reference's loop, on each device. -/
abbrev states (m : (ℓ : Loc Cert.ReferenceIdeal.nD Cert.ReferenceIdeal.τ Cert.ReferenceIdeal.sig) → Buf (Elt Ideal) ℓ)
    (c : Dev Cert.ReferenceIdeal.nD) := RefLoop.it (RefRun.state0 m c)

theorem reference_frame : Cert.quiescent_ReferenceIdeal := fun m g _ =>
  (θ_run _ _ _).mono (fun r h => ⟨fun c => (h c).2, sem_eq_zero_of_no_sems (by decide) r.2⟩) (RefRun.run m g (states m) (fun _ => rfl) (fun _ _ => rfl))

/-- Under the precondition both leave the normed rows of the retention over the reals. -/
theorem same_array : Cert.algebraic_KernelIdeal_ReferenceIdeal_pre_rotary_tables := by
  intro m g m' g' hpre hagree
  refine ⟨_, Cert.KernelIdeal.Value.run_blocks m g, ?_⟩
  refine (θ_run _ _ _).mono (fun r h c => ⟨(h c).1.trans ?_, (h c).2⟩) (RefRun.run m' g' (states m') (fun _ => rfl) (fun _ _ => rfl))
  obtain ⟨A⟩ := PreReal.reals _ _ _ _ (hpre c)
  obtain ⟨e0, e1, e2, e3⟩ := hagree c
  refine Eq.trans ?_ (KRet.final m c A).symm
  unfold states RefRun.state0
  rw [e0, e1, e2, e3]
  exact RefLoop.value A _

theorem ret_in_reference_frame : Cert.quiescent_RefRetInIdeal := fun m g _ =>
  (θ_run _ _ _).mono (fun r h => ⟨fun c => (h c).2, sem_eq_zero_of_no_sems (by decide) r.2⟩) (Cert.RefRetInIdeal.Value.run m g)

/-- Both leave the input projection of a retention layer. -/
theorem ret_in_same_array : Cert.algebraic_RetInIdeal_RefRetInIdeal := by
  intro m g m' g' _ hagree
  refine ⟨_, Cert.RetInIdeal.Value.run_blocks m g, ?_⟩
  refine (θ_run _ _ _).mono (fun r h c => ⟨(h c).1.trans ?_, (h c).2⟩) (Cert.RefRetInIdeal.Value.run m' g')
  obtain ⟨e0, e1⟩ := hagree c
  rw [e0, e1]
  exact (RetIn.reference _ _).trans (RetIn.final m c).symm

theorem gdn_in_reference_frame : Cert.quiescent_RefGdnInIdeal := fun m g _ =>
  (θ_run _ _ _).mono (fun r h => ⟨fun c => (h c).2, sem_eq_zero_of_no_sems (by decide) r.2⟩) (Cert.RefGdnInIdeal.Value.run m g)

/-- Both leave the input projection of the other kind of layer. -/
theorem gdn_in_same_array : Cert.algebraic_GdnInIdeal_RefGdnInIdeal := by
  intro m g m' g' _ hagree
  refine ⟨_, Cert.GdnInIdeal.Value.run_blocks m g, ?_⟩
  refine (θ_run _ _ _).mono (fun r h c => ⟨(h c).1.trans ?_, (h c).2⟩) (Cert.RefGdnInIdeal.Value.run m' g')
  obtain ⟨e0, e1⟩ := hagree c
  rw [e0, e1]
  exact (GdnIn.reference _ _).trans (GdnIn.final m c).symm

theorem mem_kv_reference_frame : Cert.quiescent_RefMemKvIdeal := fun m g _ =>
  (θ_run _ _ _).mono (fun r h => ⟨fun c => (h c).2, sem_eq_zero_of_no_sems (by decide) r.2⟩) (Cert.RefMemKvIdeal.Value.run m g)

/-- Both leave the projection of the memory. -/
theorem mem_kv_same_array : Cert.algebraic_MemKvIdeal_RefMemKvIdeal := by
  intro m g m' g' _ hagree
  refine ⟨_, Cert.MemKvIdeal.Value.run_blocks m g, ?_⟩
  refine (θ_run _ _ _).mono (fun r h c => ⟨(h c).1.trans ?_, (h c).2⟩) (Cert.RefMemKvIdeal.Value.run m' g')
  obtain ⟨e0, e1⟩ := hagree c
  rw [e0, e1]
  exact (MemKv.reference _ _).trans (MemKv.final m c).symm

theorem out_reference_frame : Cert.quiescent_RefGateOutIdeal := fun m g _ =>
  (θ_run _ _ _).mono (fun r h => ⟨fun c => (h c).2.2, sem_eq_zero_of_no_sems (by decide) r.2⟩) (Cert.RefGateOutIdeal.Value.run m g)

/-- Both leave the layer's output rows, normed, in both types. -/
theorem out_same_array : Cert.algebraic_GateOutIdeal_RefGateOutIdeal := by
  intro m g m' g' _ hagree
  refine ⟨_, _, Cert.GateOutIdeal.Value.run_blocks m g, ?_⟩
  refine (θ_run _ _ _).mono (fun r h c => ⟨(h c).1.trans ?_, (h c).2.1.trans ?_, (h c).2.2⟩) (Cert.RefGateOutIdeal.Value.run m' g')
  · obtain ⟨e0, e1, e2, e3, e4, e5, e6⟩ := hagree c
    refine (OutRef.first_eq m' c).trans ?_
    rw [e0, e1, e2, e3, e4, e5, e6]
    exact (OutAll.final11 m c).symm
  · obtain ⟨e0, e1, e2, e3, e4, e5, e6⟩ := hagree c
    refine (OutRef.second_eq m' c).trans ?_
    rw [e0, e1, e2, e3, e4, e5, e6]
    exact (OutAll.final12 m c).symm

theorem claim : Cert.Claim := ⟨Cert.Kernel.Gen.facts, Cert.KernelIdeal.Gen.facts, Cert.ReferenceIdeal.Gen.facts,
  Cert.RetIn.Gen.facts, Cert.RetInIdeal.Gen.facts, Cert.RefRetInIdeal.Gen.facts, Cert.GdnIn.Gen.facts, Cert.GdnInIdeal.Gen.facts, Cert.RefGdnInIdeal.Gen.facts,
  Cert.MemKv.Gen.facts, Cert.MemKvIdeal.Gen.facts, Cert.RefMemKvIdeal.Gen.facts, Cert.GateOut.Gen.facts, Cert.GateOutIdeal.Gen.facts, Cert.RefGateOutIdeal.Gen.facts,
  Cert.Pre_rotary_tables.Gen.facts,
  fun m g _ => Cert.Kernel.Gen.frame m g,
  fun m g _ => Cert.KernelIdeal.Gen.frame m g,
  fun m g _ => Cert.KernelIdeal.Gen.frame m g,
  reference_frame,
  fun m g _ => reference_frame m g trivial,
  fun m g _ => Cert.RetIn.Gen.frame m g,
  fun m g _ => Cert.RetInIdeal.Gen.frame m g,
  ret_in_reference_frame,
  fun m g _ => Cert.GdnIn.Gen.frame m g,
  fun m g _ => Cert.GdnInIdeal.Gen.frame m g,
  gdn_in_reference_frame,
  fun m g _ => Cert.MemKv.Gen.frame m g,
  fun m g _ => Cert.MemKvIdeal.Gen.frame m g,
  mem_kv_reference_frame,
  fun m g _ => Cert.GateOut.Gen.frame m g,
  fun m g _ => Cert.GateOutIdeal.Gen.frame m g,
  out_reference_frame,
  trivial,
  same_array,
  trivial,
  ret_in_same_array,
  trivial,
  gdn_in_same_array,
  trivial,
  mem_kv_same_array,
  trivial,
  out_same_array⟩

end Cert.Proof

end
